-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated_top [hPre_separated_top : Cert.Pre_separated_top.Facts] (m : (ℓ : Loc Cert.KernelIdeal.nD Cert.KernelIdeal.τ Cert.KernelIdeal.sig) → Buf (Elt Ideal) ℓ) : Prop :=
  ∀ c : Dev Cert.KernelIdeal.nD,
    (Cert.Pre_separated_top.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_separated_top.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_separated_top.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_separated_top.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_separated_top.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated_top [hPre_separated_top : Cert.Pre_separated_top.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated_top.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_separated_top.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_separated_top.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_separated_top.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_separated_top.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_separated_top [hKernelIdeal : Cert.KernelIdeal.Facts] [hPre_separated_top : Cert.Pre_separated_top.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated_top m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_separated_top [hReferenceIdeal : Cert.ReferenceIdeal.Facts] [hPre_separated_top : Cert.Pre_separated_top.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated_top m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "cut" .f32 0x7149F2CA#32 ⊤
  ∧ IdealRules.named_const.Statement Cert.KernelIdeal.κ "dropped" .f32 0xCE6E6B28#32 ⊥

def algebraic_KernelIdeal_ReferenceIdeal_pre_separated_top [hKernelIdeal : Cert.KernelIdeal.Facts] [hReferenceIdeal : Cert.ReferenceIdeal.Facts] [hPre_separated_top : Cert.Pre_separated_top.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated_top m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_separated_top : Cert.Pre_separated_top.Facts),
    quiescent_Kernel (hKernel := hKernel)
    ∧ quiescent_KernelIdeal (hKernelIdeal := hKernelIdeal)
    ∧ quiescent_KernelIdeal_pre_separated_top (hKernelIdeal := hKernelIdeal) (hPre_separated_top := hPre_separated_top)
    ∧ quiescent_ReferenceIdeal (hReferenceIdeal := hReferenceIdeal)
    ∧ quiescent_ReferenceIdeal_pre_separated_top (hReferenceIdeal := hReferenceIdeal) (hPre_separated_top := hPre_separated_top)
    ∧ preserves_Kernel_KernelIdeal
    ∧ algebraic_KernelIdeal_ReferenceIdeal_pre_separated_top (hKernelIdeal := hKernelIdeal) (hReferenceIdeal := hReferenceIdeal) (hPre_separated_top := hPre_separated_top)
-- ==== Pre_separated_top.lean ====
abbrev S32256x4096 : Shape := ⟨2, ![32256, 4096]⟩
abbrev S8x4096 : Shape := ⟨2, ![8, 4096]⟩
abbrev S32256 : Shape := ⟨1, ![32256]⟩
abbrev S8 : Shape := ⟨1, ![8]⟩
abbrev S_ : Shape := ⟨0, ![]⟩
abbrev S4096x32256 : Shape := ⟨2, ![4096, 32256]⟩
abbrev S8x32256 : Shape := ⟨2, ![8, 32256]⟩
abbrev S1x32256 : Shape := ⟨2, ![1, 32256]⟩
abbrev S8x32004 : Shape := ⟨2, ![8, 32004]⟩
abbrev S8x1 : Shape := ⟨2, ![8, 1]⟩
abbrev S8x50 : Shape := ⟨2, ![8, 50]⟩

class Facts : Prop where
  transposes_S32256x4096_S4096x32256_1_0 : S32256x4096.Transposes [1, 0] S4096x32256
  bcast_S32256_S1x32256_1 : S32256.BroadcastsInDim S1x32256 (![1] : Fin 1 → Fin S1x32256.rank)
  bcast_S1x32256_S8x32256_0_1 : S1x32256.BroadcastsInDim S8x32256 (![0, 1] : Fin 2 → Fin S8x32256.rank)
  slices_S8x32256_S8x32004_0_0 : S8x32256.Slices ![0, 0] S8x32004
  bcast_S8_S8x1_0 : S8.BroadcastsInDim S8x1 (![0] : Fin 1 → Fin S8x1.rank)
  bcast_S8x1_S8x32004_0_1 : S8x1.BroadcastsInDim S8x32004 (![0, 1] : Fin 2 → Fin S8x32004.rank)
  bcast_S_S8x32004 : S_.BroadcastsInDim S8x32004 (![] : Fin 0 → Fin S8x32004.rank)
  slices_S8x32004_S8x50_0_0 : S8x32004.Slices ![0, 0] S8x50
  slices_S8x32004_S8x50_0_1 : S8x32004.Slices ![0, 1] S8x50
  reducesTo_S8x32004_S_d0_1 : S8x32004.ReducesTo [0, 1] S_
  h_S_ : 0 < S_.numel
  reducesTo_S8x50_S_d0_1 : S8x50.ReducesTo [0, 1] S_
  bcast_S_S8 : S_.BroadcastsInDim S8 (![] : Fin 0 → Fin S8.rank)
  reducesTo_S8_S_d0 : S8.ReducesTo [0] S_
  dot_S8x4096_S4096x32256_S8x32256_1_0_0_1_n_n_wf : DotDims.WF S8x4096 S4096x32256 S8x32256 [1] [0] [0] [1] [] []

variable [Facts]

variable {F : FTy → Type} [FloatOps F]
def dot_S8x4096_S4096x32256_S8x32256_1_0_0_1_n_n : DotDims S8x4096 S4096x32256 S8x32256 where
  lhsContracting := [1]
  rhsContracting := [0]
  lhsNonContracting := [0]
  rhsNonContracting := [1]
  lhsBatch := []
  rhsBatch := []
  wf := dot_S8x4096_S4096x32256_S8x32256_1_0_0_1_n_n_wf
def comparator_f32_i32_d1 : F .f32 × BitVec 32 → F .f32 × BitVec 32 → BitVec 1 :=
  fun l r =>
    let cst_5 := FloatOps.ofBits .f32 0x00000000#32
    let v25 := FloatOps.cmpf .oeq l.1 cst_5
    let cst_6 := FloatOps.ofBits .f32 0x00000000#32
    let v26 := Scalar.select v25 cst_6 l.1
    let v27 := FloatOps.cmpf .une l.1 l.1
    let cst_7 := FloatOps.ofBits .f32 0x7FC00000#32
    let v28 := Scalar.select v27 cst_7 v26
    let cst_8 := FloatOps.ofBits .f32 0x00000000#32
    let v29 := FloatOps.cmpf .oeq r.1 cst_8
    let cst_9 := FloatOps.ofBits .f32 0x00000000#32
    let v30 := Scalar.select v29 cst_9 r.1
    let v31 := FloatOps.cmpf .une r.1 r.1
    let cst_10 := FloatOps.ofBits .f32 0x7FC00000#32
    let v32 := Scalar.select v31 cst_10 v30
    let v33 := FloatOps.cmpfTotal .lt v28 v32
    v33

def fn_part1 {F : FTy → Type} [FloatOps F] (main_arg4 : FVec F S8 .f32) (main_arg5 : IVec S_ 32) (main_v18 : IVec S_ 1) (main_v19 : IVec S_ 1) : IVec S_ 1 × IVec S_ 1 × IVec S_ 1 × IVec S_ 1 × IVec S_ 1 :=
  let main_cst_1 : FVec F S_ .f32 := constant S_ .f32 0x00000000#32
  let main_v20 : FVec F S8 .f32 := broadcastInDim S8 ![] bcast_S_S8 main_cst_1
  let main_v21 : IVec S8 1 := cmpf .oge main_arg4 main_v20
  let main_c_2 : IVec S_ 1 := constantI S_ 1 1#1
  let main_v22 : IVec S_ 1 := (fun x v => Host.reduce IntOp.andi x v reducesTo_S8_S_d0 h_S_) main_v21 main_c_2
  let main_c_3 : IVec S_ 32 := constantI S_ 32 1#32
  let main_v23 : IVec S_ 1 := cmpi .sge main_arg5 main_c_3
  let main_c_4 : IVec S_ 32 := constantI S_ 32 50#32
  let main_v24 : IVec S_ 1 := cmpi .sle main_arg5 main_c_4
  (main_v18, main_v19, main_v22, main_v23, main_v24)

def fn {F : FTy → Type} [FloatOps F] (main_arg0 : FVec F S32256x4096 .f32) (main_arg1 : FVec F S8x4096 .f32) (main_arg2 : FVec F S32256 .f32) (main_arg3 : FVec F S8 .f32) (main_arg4 : FVec F S8 .f32) (main_arg5 : IVec S_ 32) : IVec S_ 1 × IVec S_ 1 × IVec S_ 1 × IVec S_ 1 × IVec S_ 1 :=
  let main_v0 : FVec F S4096x32256 .f32 := (transpose S4096x32256 [1, 0] · transposes_S32256x4096_S4096x32256_1_0) main_arg0
  let main_v1 : FVec F S8x32256 .f32 := (fun l r => Host.dotGeneral dot_S8x4096_S4096x32256_S8x32256_1_0_0_1_n_n none l r) main_arg1 main_v0
  let main_v2 : FVec F S1x32256 .f32 := broadcastInDim S1x32256 ![1] bcast_S32256_S1x32256_1 main_arg2
  let main_v3 : FVec F S8x32256 .f32 := broadcastInDim S8x32256 ![0, 1] bcast_S1x32256_S8x32256_0_1 main_v2
  let main_v4 : FVec F S8x32256 .f32 := addf main_v1 main_v3
  let main_v5 : FVec F S8x32004 .f32 := (extractStridedSlice S8x32004 ![0, 0] · slices_S8x32256_S8x32004_0_0) main_v4
  let main_v6 : FVec F S8x1 .f32 := broadcastInDim S8x1 ![0] bcast_S8_S8x1_0 main_arg3
  let main_v7 : FVec F S8x32004 .f32 := broadcastInDim S8x32004 ![0, 1] bcast_S8x1_S8x32004_0_1 main_v6
  let main_v8 : FVec F S8x32004 .f32 := Host.divf main_v5 main_v7
  let main_v9 : FVec F S8x32004 .f32 := Host.absf main_v8
  let main_cst : FVec F S_ .f32 := constant S_ .f32 0x7F800000#32
  let main_v10 : FVec F S8x32004 .f32 := broadcastInDim S8x32004 ![] bcast_S_S8x32004 main_cst
  let main_v11 : IVec S8x32004 1 := cmpf .olt main_v9 main_v10
  let main_v12 : FVec F S8x32004 .f32 := Host.negf main_v8
  let main_v13 : IVec S8x32004 32 := iotaInDim S8x32004 32 1
  let main_v14_0 : FVec F S8x32004 .f32 := (fun x y => (Host.sort2 S8x32004 1 comparator_f32_i32_d1 x y).1) main_v12 main_v13
  let main_v14_1 : IVec S8x32004 32 := (fun x y => (Host.sort2 S8x32004 1 comparator_f32_i32_d1 x y).2) main_v12 main_v13
  let main_v15 : FVec F S8x50 .f32 := (extractStridedSlice S8x50 ![0, 0] · slices_S8x32004_S8x50_0_0) main_v14_0
  let main_v16 : FVec F S8x50 .f32 := (extractStridedSlice S8x50 ![0, 1] · slices_S8x32004_S8x50_0_1) main_v14_0
  let main_v17 : IVec S8x50 1 := cmpf .olt main_v15 main_v16
  let main_c : IVec S_ 1 := constantI S_ 1 1#1
  let main_v18 : IVec S_ 1 := (fun x v => Host.reduce IntOp.andi x v reducesTo_S8x32004_S_d0_1 h_S_) main_v11 main_c
  let main_c_0 : IVec S_ 1 := constantI S_ 1 1#1
  let main_v19 : IVec S_ 1 := (fun x v => Host.reduce IntOp.andi x v reducesTo_S8x50_S_d0_1 h_S_) main_v17 main_c_0
  fn_part1 (F := F) main_arg4 main_arg5 main_v18 main_v19
-- ==== Kernel.lean ====
abbrev S32256x4096 : Shape := ⟨2, ![32256, 4096]⟩
abbrev S8x4096 : Shape := ⟨2, ![8, 4096]⟩
abbrev S32256 : Shape := ⟨1, ![32256]⟩
abbrev S8 : Shape := ⟨1, ![8]⟩
abbrev S_ : Shape := ⟨0, ![]⟩
abbrev S1x32256 : Shape := ⟨2, ![1, 32256]⟩
abbrev S1x1 : Shape := ⟨2, ![1, 1]⟩
abbrev S8x1 : Shape := ⟨2, ![8, 1]⟩
abbrev S8x125 : Shape := ⟨2, ![8, 125]⟩
abbrev S8x128 : Shape := ⟨2, ![8, 128]⟩
abbrev S8x32004 : Shape := ⟨2, ![8, 32004]⟩
abbrev S768x4096 : Shape := ⟨2, ![768, 4096]⟩
abbrev S1x768 : Shape := ⟨2, ![1, 768]⟩
abbrev S8x32256 : Shape := ⟨2, ![8, 32256]⟩
abbrev S8x768 : Shape := ⟨2, ![8, 768]⟩
abbrev S8x512 : Shape := ⟨2, ![8, 512]⟩
abbrev S8x50 : Shape := ⟨2, ![8, 50]⟩
abbrev S50x50 : Shape := ⟨2, ![50, 50]⟩

abbrev nBuf : Space → Nat
  | .hbm => 23
  | .vmem => 11
  | .smem => 0
  | _ => 0

abbrev bufTy : (tb : Table) → Fin (tcTables nBuf tb) → BufTy
  | .hbm, ⟨0, _⟩ => ⟨S32256x4096, .f32⟩
  | .hbm, ⟨1, _⟩ => ⟨S8x4096, .f32⟩
  | .hbm, ⟨2, _⟩ => ⟨S32256, .f32⟩
  | .hbm, ⟨3, _⟩ => ⟨S8, .f32⟩
  | .hbm, ⟨4, _⟩ => ⟨S8, .f32⟩
  | .hbm, ⟨5, _⟩ => ⟨S_, .i32⟩
  | .hbm, ⟨6, _⟩ => ⟨S1x32256, .f32⟩
  | .hbm, ⟨7, _⟩ => ⟨S_, .f32⟩
  | .hbm, ⟨8, _⟩ => ⟨S1x1, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S8x1, .f32⟩
  | .hbm, ⟨13, _⟩ => ⟨S8x1, .f32⟩
  | .hbm, ⟨14, _⟩ => ⟨S8x1, .f32⟩
  | .hbm, ⟨15, _⟩ => ⟨S_, .f32⟩
  | .hbm, ⟨16, _⟩ => ⟨S8x125, .f32⟩
  | .hbm, ⟨17, _⟩ => ⟨S8x128, .f32⟩
  | .hbm, ⟨18, _⟩ => ⟨S8x1, .i32⟩
  | .hbm, ⟨19, _⟩ => ⟨S8x32004, .f32⟩
  | .hbm, ⟨20, _⟩ => ⟨S8x1, .f32⟩
  | .hbm, ⟨21, _⟩ => ⟨S8, .i32⟩
  | .hbm, ⟨22, _⟩ => ⟨S8, .f32⟩
  | .local _ .vmem, ⟨0, _⟩ => ⟨S8x4096, .f32⟩
  | .local _ .vmem, ⟨1, _⟩ => ⟨S768x4096, .f32⟩
  | .local _ .vmem, ⟨2, _⟩ => ⟨S768x4096, .f32⟩
  | .local _ .vmem, ⟨3, _⟩ => ⟨S1x768, .f32⟩
  | .local _ .vmem, ⟨4, _⟩ => ⟨S1x768, .f32⟩
  | .local _ .vmem, ⟨5, _⟩ => ⟨S8x128, .f32⟩
  | .local _ .vmem, ⟨6, _⟩ => ⟨S8x1, .i32⟩
  | .local _ .vmem, ⟨7, _⟩ => ⟨S8x32004, .f32⟩
  | .local _ .vmem, ⟨8, _⟩ => ⟨S8x1, .f32⟩
  | .local _ .vmem, ⟨9, _⟩ => ⟨S8x32256, .f32⟩
  | .local _ .vmem, ⟨10, _⟩ => ⟨S8x128, .f32⟩
  | _, _ => ⟨S32256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![42], ![false]⟩

def k0_off1 (i : grid0.Coords) : Fin 2 → Nat :=
  let c0_9 : Index := 0#32
  let arg0 : BitVec 32 := BitVec.ofNat 32 (i 0).val
  let c768_i32_8 : BitVec 32 := 768#32
  let v19 : BitVec 32 := Scalar.muli arg0 c768_i32_8
  let v20 : Index := Scalar.indexCast v19
  ![0, v20.toNat]
def k0_cond3 (i : grid0.Coords) : BitVec 1 :=
  let arg0 : BitVec 32 := BitVec.ofNat 32 (i 0).val
  let c41_i32 : BitVec 32 := 41#32
  let v44 : BitVec 1 := Scalar.cmpi .eq arg0 c41_i32
  let v45 : BitVec 32 := Scalar.extui v44
  let c0_i32_16 : BitVec 32 := 0#32
  let v46 : BitVec 1 := Scalar.cmpi .ne v45 c0_i32_16
  v46

@[reducible] def k0_t1_loop : Scf.Loop 32 :=
  let c0_i32_31 : BitVec 32 := 0#32
  let c7_i32 : BitVec 32 := 7#32
  let v65 : BitVec 32 := Scalar.addi c0_i32_31 c7_i32
  let c1_i32 : BitVec 32 := 1#32
  ⟨c0_i32_31, v65, c1_i32⟩
def k0_off2 (c0_i32_44 : BitVec 32) : Fin 2 → Nat :=
  let c0_45 : Index := 0#32
  let c512_i32 : BitVec 32 := 512#32
  let v112 : BitVec 32 := Scalar.muli c0_i32_44 c512_i32
  let v113 : Index := Scalar.indexCast v112
  ![0, v113.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S768x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x32004 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
variable {F : FTy → Type} [FloatOps F] [Named F]
def κ : String → Option EReal := fun
  | "cut" => some ⊤
  | "dropped" => some ⊥
  | "mask" => some ⊥
  | _ => none
-- ==== ReferenceIdeal.lean ====
abbrev S32256x4096 : Shape := ⟨2, ![32256, 4096]⟩
abbrev S8x4096 : Shape := ⟨2, ![8, 4096]⟩
abbrev S32256 : Shape := ⟨1, ![32256]⟩
abbrev S8 : Shape := ⟨1, ![8]⟩
abbrev S_ : Shape := ⟨0, ![]⟩
abbrev S4096x32256 : Shape := ⟨2, ![4096, 32256]⟩
abbrev S8x32256 : Shape := ⟨2, ![8, 32256]⟩
abbrev S1x32256 : Shape := ⟨2, ![1, 32256]⟩
abbrev S8x1 : Shape := ⟨2, ![8, 1]⟩
abbrev S8x32004 : Shape := ⟨2, ![8, 32004]⟩
abbrev S8x32004x1 : Shape := ⟨3, ![8, 32004, 1]⟩
abbrev S1 : Shape := ⟨1, ![1]⟩
abbrev S1x1x1 : Shape := ⟨3, ![1, 1, 1]⟩
abbrev S32004 : Shape := ⟨1, ![32004]⟩
abbrev S1x32004 : Shape := ⟨2, ![1, 32004]⟩

abbrev nBuf : Space → Nat
  | .hbm => 133
  | .vmem => 0
  | .smem => 0
  | _ => 0

abbrev hbmTy0_0 (i : Nat) : BufTy := match i % 128 with
  | 0 => ⟨S32256x4096, .f32⟩
  | 1 => ⟨S8x4096, .f32⟩
  | 2 => ⟨S32256, .f32⟩
  | 3 => ⟨S8, .f32⟩
  | 4 => ⟨S8, .f32⟩
  | 5 => ⟨S_, .i32⟩
  | 6 => ⟨S4096x32256, .f32⟩
  | 7 => ⟨S8x32256, .f32⟩
  | 8 => ⟨S1x32256, .f32⟩
  | 9 => ⟨S8x32256, .f32⟩
  | 10 => ⟨S8x32256, .f32⟩
  | 11 => ⟨S8x1, .f32⟩
  | 12 => ⟨S8, .f32⟩
  | 13 => ⟨S8x32004, .f32⟩
  | 14 => ⟨S8x1, .f32⟩
  | 15 => ⟨S8x32004, .f32⟩
  | 16 => ⟨S8x32004, .f32⟩
  | 17 => ⟨S8x32004, .f32⟩
  | 18 => ⟨S8x32004, .i32⟩
  | 19 => ⟨S8x32004, .f32⟩
  | 20 => ⟨S8x32004, .i32⟩
  | 21 => ⟨S_, .i32⟩
  | 22 => ⟨S8x32004, .i32⟩
  | 23 => ⟨S8x32004, .i1⟩
  | 24 => ⟨S_, .i32⟩
  | 25 => ⟨S8x32004, .i32⟩
  | 26 => ⟨S8x32004, .i32⟩
  | 27 => ⟨S8x32004, .i32⟩
  | 28 => ⟨S8x32004x1, .i32⟩
  | 29 => ⟨S1, .i32⟩
  | 30 => ⟨S_, .i32⟩
  | 31 => ⟨S8x32004x1, .i32⟩
  | 32 => ⟨S8x32004x1, .i1⟩
  | 33 => ⟨S1x1x1, .i32⟩
  | 34 => ⟨S8x32004x1, .i32⟩
  | 35 => ⟨S8x32004x1, .i1⟩
  | 36 => ⟨S8x32004x1, .i1⟩
  | 37 => ⟨S_, .i1⟩
  | 38 => ⟨S8x32004, .i1⟩
  | 39 => ⟨S8x32004, .f32⟩
  | 40 => ⟨S_, .f32⟩
  | 41 => ⟨S8x32004, .f32⟩
  | 42 => ⟨S8x32004, .f32⟩
  | 43 => ⟨S_, .f32⟩
  | 44 => ⟨S8, .f32⟩
  | 45 => ⟨S_, .f32⟩
  | 46 => ⟨S8, .f32⟩
  | 47 => ⟨S8, .f32⟩
  | 48 => ⟨S8x1, .f32⟩
  | 49 => ⟨S8x32004, .f32⟩
  | 50 => ⟨S8x32004, .f32⟩
  | 51 => ⟨S8x32004, .f32⟩
  | 52 => ⟨S_, .f32⟩
  | 53 => ⟨S8, .f32⟩
  | 54 => ⟨S8x1, .f32⟩
  | 55 => ⟨S8x32004, .f32⟩
  | 56 => ⟨S8x32004, .f32⟩
  | 57 => ⟨S_, .f32⟩
  | 58 => ⟨S_, .f32⟩
  | 59 => ⟨S8x32004, .f32⟩
  | 60 => ⟨S8x32004, .f32⟩
  | 61 => ⟨S8x1, .f32⟩
  | 62 => ⟨S8x32004, .f32⟩
  | 63 => ⟨S8x32004, .i1⟩
  | 64 => ⟨S32004, .i32⟩
  | 65 => ⟨S1x32004, .i32⟩
  | 66 => ⟨S1x32004, .i32⟩
  | 67 => ⟨S1x32004, .i1⟩
  | 68 => ⟨S8x32004, .i1⟩
  | 69 => ⟨S8x32004, .i1⟩
  | 70 => ⟨S_, .f32⟩
  | 71 => ⟨S_, .f32⟩
  | 72 => ⟨S8x32004, .f32⟩
  | 73 => ⟨S8x32004, .f32⟩
  | 74 => ⟨S8x32004, .i32⟩
  | 75 => ⟨S8x32004, .i32⟩
  | 76 => ⟨S8x32004, .i32⟩
  | 77 => ⟨S_, .i32⟩
  | 78 => ⟨S8x32004, .i32⟩
  | 79 => ⟨S8x32004, .i1⟩
  | 80 => ⟨S_, .i32⟩
  | 81 => ⟨S8x32004, .i32⟩
  | 82 => ⟨S8x32004, .i32⟩
  | 83 => ⟨S8x32004, .i32⟩
  | 84 => ⟨S8x32004x1, .i32⟩
  | 85 => ⟨S1, .i32⟩
  | 86 => ⟨S_, .i32⟩
  | 87 => ⟨S8x32004x1, .i32⟩
  | 88 => ⟨S8x32004x1, .i1⟩
  | 89 => ⟨S1x1x1, .i32⟩
  | 90 => ⟨S8x32004x1, .i32⟩
  | 91 => ⟨S8x32004x1, .i1⟩
  | 92 => ⟨S8x32004x1, .i1⟩
  | 93 => ⟨S_, .i1⟩
  | 94 => ⟨S8x32004, .i1⟩
  | 95 => ⟨S8x32004, .f32⟩
  | 96 => ⟨S_, .f32⟩
  | 97 => ⟨S8x32004, .f32⟩
  | 98 => ⟨S8x32004, .f32⟩
  | 99 => ⟨S_, .f32⟩
  | 100 => ⟨S8, .f32⟩
  | 101 => ⟨S_, .f32⟩
  | 102 => ⟨S8, .f32⟩
  | 103 => ⟨S8, .f32⟩
  | 104 => ⟨S8x1, .f32⟩
  | 105 => ⟨S8x32004, .f32⟩
  | 106 => ⟨S8x32004, .f32⟩
  | 107 => ⟨S8x32004, .f32⟩
  | 108 => ⟨S_, .f32⟩
  | 109 => ⟨S8, .f32⟩
  | 110 => ⟨S8x1, .f32⟩
  | 111 => ⟨S8x32004, .f32⟩
  | 112 => ⟨S8x32004, .f32⟩
  | 113 => ⟨S_, .f32⟩
  | 114 => ⟨S8, .f32⟩
  | 115 => ⟨S_, .f32⟩
  | 116 => ⟨S8, .f32⟩
  | 117 => ⟨S8, .f32⟩
  | 118 => ⟨S8x1, .f32⟩
  | 119 => ⟨S8x32004, .f32⟩
  | 120 => ⟨S8x32004, .f32⟩
  | 121 => ⟨S8x32004, .f32⟩
  | 122 => ⟨S_, .f32⟩
  | 123 => ⟨S8, .f32⟩
  | 124 => ⟨S8x1, .f32⟩
  | 125 => ⟨S8x1, .f32⟩
  | 126 => ⟨S8x32004, .f32⟩
  | 127 => ⟨S8x32004, .f32⟩
  | _ => ⟨S32256x4096, .f32⟩

abbrev hbmTy0_1 (i : Nat) : BufTy := match i % 128 with
  | 0 => ⟨S8x32004, .i32⟩
  | 1 => ⟨S_, .f32⟩
  | 2 => ⟨S_, .i32⟩
  | 3 => ⟨S8, .f32⟩
  | 4 => ⟨S8, .i32⟩
  | _ => ⟨S32256x4096, .f32⟩

abbrev hbmTy (i : Nat) : BufTy := match i / 128 with
  | 0 => hbmTy0_0 i
  | 1 => hbmTy0_1 i
  | _ => ⟨S32256x4096, .f32⟩

abbrev bufTy : (tb : Table) → Fin (tcTables nBuf tb) → BufTy
  | .hbm, ⟨i, _⟩ => hbmTy i
  | _, _ => ⟨S32256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_v0 : Ref sig .tc := ⟨.hbm, 18, rfl⟩
abbrev main_call0_v1_0 : Ref sig .tc := ⟨.hbm, 19, rfl⟩
abbrev main_v12 : Ref sig .tc := ⟨.hbm, 20, rfl⟩
abbrev main_call1_c : Ref sig .tc := ⟨.hbm, 21, rfl⟩
abbrev main_call1_v0 : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_c_1 : Ref sig .tc := ⟨.hbm, 29, rfl⟩
abbrev main_call1_c_2 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_3 : Ref sig .tc := ⟨.hbm, 37, rfl⟩
abbrev main_call1_v12 : Ref sig .tc := ⟨.hbm, 38, rfl⟩
abbrev main_call1_v13 : Ref sig .tc := ⟨.hbm, 39, rfl⟩
abbrev main_call1_cst : Ref sig .tc := ⟨.hbm, 40, rfl⟩
abbrev main_call1_v14 : Ref sig .tc := ⟨.hbm, 41, rfl⟩
abbrev main_v13 : Ref sig .tc := ⟨.hbm, 42, rfl⟩
abbrev main_cst : Ref sig .tc := ⟨.hbm, 43, rfl⟩
abbrev main_v14 : Ref sig .tc := ⟨.hbm, 44, rfl⟩
abbrev main_cst_0 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_1 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_call2_call0_cst : Ref sig .tc := ⟨.hbm, 57, rfl⟩
abbrev main_call2_call0_v0 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_cst_2 : Ref sig .tc := ⟨.hbm, 70, rfl⟩
abbrev main_call3_v0 : Ref sig .tc := ⟨.hbm, 71, rfl⟩
abbrev main_call3_v1 : Ref sig .tc := ⟨.hbm, 72, rfl⟩
abbrev main_v36 : Ref sig .tc := ⟨.hbm, 73, rfl⟩
abbrev main_call4_v0 : Ref sig .tc := ⟨.hbm, 74, rfl⟩
abbrev main_call4_v1_0 : Ref sig .tc := ⟨.hbm, 75, rfl⟩
abbrev main_v37 : Ref sig .tc := ⟨.hbm, 76, rfl⟩
abbrev main_call5_c : Ref sig .tc := ⟨.hbm, 77, rfl⟩
abbrev main_call5_v0 : Ref sig .tc := ⟨.hbm, 78, rfl⟩
abbrev main_call5_v1 : Ref sig .tc := ⟨.hbm, 79, rfl⟩
abbrev main_call5_c_0 : Ref sig .tc := ⟨.hbm, 80, rfl⟩
abbrev main_call5_v2 : Ref sig .tc := ⟨.hbm, 81, rfl⟩
abbrev main_call5_v3 : Ref sig .tc := ⟨.hbm, 82, rfl⟩
abbrev main_call5_v4 : Ref sig .tc := ⟨.hbm, 83, rfl⟩
abbrev main_call5_v5 : Ref sig .tc := ⟨.hbm, 84, rfl⟩
abbrev main_call5_c_1 : Ref sig .tc := ⟨.hbm, 85, rfl⟩
abbrev main_call5_c_2 : Ref sig .tc := ⟨.hbm, 86, rfl⟩
abbrev main_call5_v6 : Ref sig .tc := ⟨.hbm, 87, rfl⟩
abbrev main_call5_v7 : Ref sig .tc := ⟨.hbm, 88, rfl⟩
abbrev main_call5_v8 : Ref sig .tc := ⟨.hbm, 89, rfl⟩
abbrev main_call5_v9 : Ref sig .tc := ⟨.hbm, 90, rfl⟩
abbrev main_call5_v10 : Ref sig .tc := ⟨.hbm, 91, rfl⟩
abbrev main_call5_v11 : Ref sig .tc := ⟨.hbm, 92, rfl⟩
abbrev main_call5_c_3 : Ref sig .tc := ⟨.hbm, 93, rfl⟩
abbrev main_call5_v12 : Ref sig .tc := ⟨.hbm, 94, rfl⟩
abbrev main_call5_v13 : Ref sig .tc := ⟨.hbm, 95, rfl⟩
abbrev main_call5_cst : Ref sig .tc := ⟨.hbm, 96, rfl⟩
abbrev main_call5_v14 : Ref sig .tc := ⟨.hbm, 97, rfl⟩
abbrev main_v38 : Ref sig .tc := ⟨.hbm, 98, rfl⟩
abbrev main_cst_3 : Ref sig .tc := ⟨.hbm, 99, rfl⟩
abbrev main_v39 : Ref sig .tc := ⟨.hbm, 100, rfl⟩
abbrev main_cst_4 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_cst_5 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_call6_cst : Ref sig .tc := ⟨.hbm, 113, rfl⟩
abbrev main_call6_v0 : Ref sig .tc := ⟨.hbm, 114, rfl⟩
abbrev main_call6_cst_0 : Ref sig .tc := ⟨.hbm, 115, rfl⟩
abbrev main_call6_v1 : Ref sig .tc := ⟨.hbm, 116, rfl⟩
abbrev main_call6_v2 : Ref sig .tc := ⟨.hbm, 117, rfl⟩
abbrev main_call6_v3 : Ref sig .tc := ⟨.hbm, 118, rfl⟩
abbrev main_call6_v4 : Ref sig .tc := ⟨.hbm, 119, rfl⟩
abbrev main_call6_v5 : Ref sig .tc := ⟨.hbm, 120, rfl⟩
abbrev main_call6_v6 : Ref sig .tc := ⟨.hbm, 121, rfl⟩
abbrev main_call6_cst_1 : Ref sig .tc := ⟨.hbm, 122, rfl⟩
abbrev main_call6_v7 : Ref sig .tc := ⟨.hbm, 123, rfl⟩
abbrev main_call6_v8 : Ref sig .tc := ⟨.hbm, 124, rfl⟩
abbrev main_call6_v9 : Ref sig .tc := ⟨.hbm, 125, rfl⟩
abbrev main_call6_v10 : Ref sig .tc := ⟨.hbm, 126, rfl⟩
abbrev main_v50 : Ref sig .tc := ⟨.hbm, 127, rfl⟩
abbrev main_call7_v0 : Ref sig .tc := ⟨.hbm, 128, rfl⟩
abbrev main_call7_cst : Ref sig .tc := ⟨.hbm, 129, rfl⟩
abbrev main_call7_c : Ref sig .tc := ⟨.hbm, 130, rfl⟩
abbrev main_call7_v1_0 : Ref sig .tc := ⟨.hbm, 131, rfl⟩
abbrev main_v51 : Ref sig .tc := ⟨.hbm, 132, rfl⟩

abbrev nD : Nat := 1
abbrev τ : Topo := Topo.v7x

variable {F : FTy → Type} [FloatOps F]
-- ==== Proof.Ideal.Body.lean ====
/-
  The kernel's body at one grid point, with nothing said of what it leaves: from every operand at some contents it runs
  to its return and hands every operand back, the four inputs as they were.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The first conditional's word at a point: the point is the first. -/
abbrev cond1 (i : grid0.Coords) : BitVec 1 := Scalar.cmpi .ne (Scalar.extui (Scalar.cmpi .eq (BitVec.ofNat 32 (i 0).val) 0#32) : BitVec 32) 0#32
/-- The second conditional's word at a point: the point is not the first. -/
abbrev cond2 (i : grid0.Coords) : BitVec 1 := Scalar.cmpi .ne (Scalar.extui (Scalar.cmpi .sgt (BitVec.ofNat 32 (i 0).val) 0#32) : BitVec 32) 0#32

/-- The three kinds of point: the first, one between, the last. -/
theorem cases_point (i : grid0.Coords) :
    (cond1 i = 1#1 ∧ ¬ cond2 i = 1#1 ∧ ¬ k0_cond3 i = 1#1) ∨ (¬ cond1 i = 1#1 ∧ cond2 i = 1#1 ∧ ¬ k0_cond3 i = 1#1)
      ∨ (¬ cond1 i = 1#1 ∧ cond2 i = 1#1 ∧ k0_cond3 i = 1#1) := by
  have h : ∀ j : Fin 42, ∀ i : grid0.Coords, i 0 = j → (cond1 i = 1#1 ∧ ¬ cond2 i = 1#1 ∧ ¬ k0_cond3 i = 1#1) ∨ (¬ cond1 i = 1#1 ∧ cond2 i = 1#1 ∧ ¬ k0_cond3 i = 1#1)
      ∨ (¬ cond1 i = 1#1 ∧ cond2 i = 1#1 ∧ k0_cond3 i = 1#1) := by
    intro j i e
    unfold cond1 cond2 k0_cond3
    simp only [e]
    clear e i
    revert j; decide
  exact h (i 0) i rfl

theorem kernelRun (c : Dev nD) (i : grid0.Coords)
    (arg1 : Memref sig .tc .vmem S8x4096 .f32) (harg1 : arg1.IsWhole) (arg2 : Memref sig .tc .vmem S768x4096 .f32) (harg2 : arg2.IsWhole)
    (arg3 : Memref sig .tc .vmem S1x768 .f32) (harg3 : arg3.IsWhole) (arg4 : Memref sig .tc .vmem S8x128 .f32) (harg4 : arg4.IsWhole)
    (arg5 : Memref sig .tc .vmem S8x1 .i32) (harg5 : arg5.IsWhole) (arg6 : Memref sig .tc .vmem S8x32004 .f32) (harg6 : arg6.IsWhole)
    (arg7 : Memref sig .tc .vmem S8x1 .f32) (harg7 : arg7.IsWhole)
    (arg8 : Memref sig .tc .vmem S8x32256 .f32) (harg8 : arg8.IsWhole) (arg9 : Memref sig .tc .vmem S8x128 .f32) (harg9 : arg9.IsWhole)
    (d1 d2 d3 d4) (K : PUnit → sProp 𝕄) :
    iprop(owns (c : Thread nD τ) arg1 fullShare d1 ∗ owns (c : Thread nD τ) arg2 fullShare d2 ∗ owns (c : Thread nD τ) arg3 fullShare d3
        ∗ owns (c : Thread nD τ) arg4 fullShare d4
        ∗ (∃ d, owns (c : Thread nD τ) arg5 fullShare d) ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (iprop(owns (c : Thread nD τ) arg1 fullShare d1 ∗ owns (c : Thread nD τ) arg2 fullShare d2 ∗ owns (c : Thread nD τ) arg3 fullShare d3
        ∗ owns (c : Thread nD τ) arg4 fullShare d4
        ∗ (∃ d, owns (c : Thread nD τ) arg5 fullShare d) ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)) -∗ K ⟨⟩))
      ⊢ wp frame (wpE (defs₀ (F := F)) Variants.none c none) Set.univ
          (cc0__rank_sampler_kernel i arg1 harg1 arg2 harg2 arg3 harg3 arg4 harg4 arg5 harg5 arg6 harg6 arg7 harg7 arg8 harg8 arg9 harg9) K := by
  simp only [cc0__rank_sampler_kernel_eq_skeleton]; unfold cc0__rank_sampler_kernel_skel

  unfold owns
  iintro ⟨⟨%f1, %e1, H1⟩, ⟨%f2, %e2, H2⟩, ⟨%f3, %e3, H3⟩, ⟨%f4, %e4, H4⟩, ⟨%d5, %f5, -, H5⟩, ⟨%d6, %f6, -, H6⟩, ⟨%d7, %f7, -, H7⟩, ⟨%d8, %f8, -, H8⟩, ⟨%d9, %f9, -, H9⟩, Hk⟩
  rcases cases_point i with ⟨h1, h2, h3⟩ | ⟨h1, h2, h3⟩ | ⟨h1, h2, h3⟩
  all_goals
    sl_exec (disch := first | exact h1 | exact h2 | exact h3)
    sl_step
    iapply Hk
    isplitl [H1]
    · iexists _; isplitr; swap; · iexact H1
      ipureintro; exact e1
    isplitl [H2]
    · iexists _; isplitr; swap; · iexact H2
      ipureintro; exact e2
    isplitl [H3]
    · iexists _; isplitr; swap; · iexact H3
      ipureintro; exact e3
    isplitl [H4]
    · iexists _; isplitr; swap; · iexact H4
      ipureintro; exact e4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    iexists _, _; isplitr; swap; · iexact H9
    ipureintro; rfl

end Cert.KernelIdeal.Hand
-- ==== Proof.Ideal.Frame.lean ====
/-
  The idealized kernel's frame: it runs to its end from any memory, leaves its six arguments as they were and every
  semaphore counter at zero. Nothing is said of its results: the three output windows are forgotten, and both scratch
  buffers are held at some contents between the points.
-/
module

public import proofs.«01_k».proof.Proof.Ideal.Body
public import Idealize.ShloMosaic.Lib.Pipeline.FrameSuffix

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The three outputs are forgotten. -/
def forgets0 : Fin 7 → Bool := ![false, false, false, false, true, true, true]

/-- The proof data: the arrays as the region finds them, the inputs left in place, the scratch at some contents. -/
def dats (_ : Fin 1) (c : Dev nD) : Dat τ (Elt F) Unit ℕ (UR sig nD τ) ℕ cfg0 c where
  A w := V m c (Pipeline.arrRef spec0 w)
  after := fun
    | 0 => fun t => iblk m c 0 t
    | 1 => fun t => iblk m c 1 t
    | 2 => fun t => iblk m c 2 t
    | 3 => fun t => iblk m c 3 t
    | 4 => fun t => Dat.unnamed (cfg := cfg0) 4 t
    | 5 => fun t => Dat.unnamed (cfg := cfg0) 5 t
    | 6 => fun t => Dat.unnamed (cfg := cfg0) 6 t
  Φ _ := Pipeline.ΦA spec0 c
  q _ := fullShare
  owed _ := 0

theorem A_eq (c : Dev nD) (w : Fin cfg0.W) : (dats m 0 c).A w = V m c (Pipeline.arrRef spec0 w) := by dsimp only [dats]

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare d)
    ∗ (∃ d, owns (c : Thread nD τ) (st0_5 t) fullShare d)
    ∗ (∃ d, owns (c : Thread nD τ) (st0_6 t) fullShare d))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare d)
    ∗ (∃ d, owns (c : Thread nD τ) (st0_5 t) fullShare d)
    ∗ (∃ d, owns (c : Thread nD τ) (st0_6 t) fullShare d))

/-- Both scratch buffers at some contents and the generator register at some state. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d))
          ∗ ∃ r, prngReg c r) := by
  unfold Pipeline.ΦA; rw [scopedRest0_eq]; simp only [owns_whole]; try rfl

/-- The body at the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq]
  simp only [before0_0_of m (dats m 0 c) (A_eq m c 0) (fun _ => rfl), before0_1_of m (dats m 0 c) (A_eq m c 1) (fun _ => rfl),
    before0_2_of m (dats m 0 c) (A_eq m c 2) (fun _ => rfl), before0_3_of m (dats m 0 c) (A_eq m c 3) (fun _ => rfl)]
  iintro ⟨⟨⟨H8, H9⟩, Hg⟩, HO, ⟨%d0, H0⟩, ⟨%d1, H1⟩, ⟨%d2, H2⟩, ⟨%d3, H3⟩, H4, H5, H6⟩
  iapply (kernelRun c (grid0.coords t) _ _ _ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H8]; · iexact H8
  isplitl [H9]; · iexact H9
  iintro ⟨H0, H1, H2, H3, H4, H5, H6, H8, H9⟩
  isplitl [H8 H9 Hg]
  · isplitl [H8 H9]
    · isplitl [H8]; · iexact H8
      iexact H9
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  iexact H6

/-- The body table's row at the point is the body. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-- The results' reshapes, the only buffers written after the region. -/
def tailWrites : Finset (Ref sig .tc) := {main_v11, main_v12}

theorem tail_writes : ∀ ops ∈ ([hostOps1] : List (List (HloOp τ sig (Elt F)))), ∀ op ∈ ops, ∀ b : Ref sig .tc,
    Proc.devRef .tc b ∈ op.writes → b ∈ tailWrites := by
  intro ops hops op hop b hb
  rw [List.mem_singleton] at hops; subst hops
  unfold tailWrites
  simp only [List.mem_cons, List.not_mem_nil, or_false] at hop
  rcases hop with rfl | rfl
  · have : b = main_v11 := by exact Proc.devRef_injective _ (Finset.mem_singleton.mp hb)
    subst this; decide
  · have : b = main_v12 := by exact Proc.devRef_injective _ (Finset.mem_singleton.mp hb)
    subst this; decide

set_option backward.isDefEq.respectTransparency.types false in
theorem run_main :
    θ_run defs (onTc (τ := τ) (main (F := F))) (s₀ m ρ)
      (fun r => Pipeline.RDat.FramePostR (cfgs 0) (fun c => (dats m 0 c).toRForget forgets0) tailWrites (V m) r ∧ r.2.sem = fun _ => 0) :=
  Pipeline.θ_run_frame_around_T_forget (Q' := _) cfgs (dats m) (0 : Fin 1) launch0 defs₀ Variants.none forgets0 tailWrites m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl)
    (hQ' := fun _ h => h)

/-- The frame, in the claim's words. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r h => ⟨fun c =>
    ⟨(h.1.arr_in c 1 rfl).trans (V_main_arg0 m c), (h.1.arr_in c 0 rfl).trans (V_main_arg1 m c),
     ((h.1 c).2 main_arg2 (by decide)).trans (V_main_arg2 m c), ((h.1 c).2 main_arg3 (by decide)).trans (V_main_arg3 m c),
     ((h.1 c).2 main_arg4 (by decide)).trans (V_main_arg4 m c), ((h.1 c).2 main_arg5 (by decide)).trans (V_main_arg5 m c)⟩, h.2⟩) (run_main m ρ)

end Cert.KernelIdeal.Hand
-- ==== Proof.Reference.Run.lean ====
/-
  The reference's @main as a list of its 127 host operations, and its run read back: every weakly fair execution
  terminates with each result buffer at the operations' composed term of the arguments' launch contents and the
  arguments unchanged. The last operations are the two results of the arg-max reduction. -/
module

public import proofs.«01_k».proof.Proof.Gen.ReferenceIdeal
public import Idealize.ShloMosaic.Lib.StableHlo.Run

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 127 operations, in order (a called function's operations stand in its call's place, spelt `TRef.…`). -/
abbrev ops : List (HloOp τ sig (Elt F)) :=
  [ unary main_arg0 main_v0 ((transpose S4096x32256 [1, 0] · transposes_S32256x4096_S4096x32256_1_0) : (⟨S32256x4096, .f32⟩ : BufTy).Contents (Elt F) → (⟨S4096x32256, .f32⟩ : BufTy).Contents (Elt F)),
    binary main_arg1 main_v0 main_v1 ((fun l r => Host.dotGeneral dot_S8x4096_S4096x32256_S8x32256_1_0_0_1_n_n none l r) : (⟨S8x4096, .f32⟩ : BufTy).Contents (Elt F) → (⟨S4096x32256, .f32⟩ : BufTy).Contents (Elt F) → (⟨S8x32256, .f32⟩ : BufTy).Contents (Elt F)),
    unary main_arg2 main_v2 (broadcastInDim S1x32256 ![1] bcast_S32256_S1x32256_1 : (⟨S32256, .f32⟩ : BufTy).Contents (Elt F) → (⟨S1x32256, .f32⟩ : BufTy).Contents (Elt F)),
    unary main_v2 main_v3 (broadcastInDim S8x32256 ![0, 1] bcast_S1x32256_S8x32256_0_1 : (⟨S1x32256, .f32⟩ : BufTy).Contents (Elt F) → (⟨S8x32256, .f32⟩ : BufTy).Contents (Elt F)),
    binary main_v1 main_v3 main_v4 (addf : (⟨S8x32256, .f32⟩ : BufTy).Contents (Elt F) → (⟨S8x32256, .f32⟩ : BufTy).Contents (Elt F) → (⟨S8x32256, .f32⟩ : BufTy).Contents (Elt F)),
    unary main_v4 main_v5 ((extractStridedSlice S8x1 ![0, 32255] · slices_S8x32256_S8x1_0_32255) : (⟨S8x32256, .f32⟩ : BufTy).Contents (Elt F) → (⟨S8x1, .f32⟩ : BufTy).Contents (Elt F)),
    reshape main_v5 main_v6 (rfl : (.f32 : EltTy) = .f32) shapeCasts_S8x1_S8,
    unary main_v4 main_v7 ((extractStridedSlice S8x32004 ![0, 0] · slices_S8x32256_S8x32004_0_0) : (⟨S8x32256, .f32⟩ : BufTy).Contents (Elt F) → (⟨S8x32004, .f32⟩ : BufTy).Contents (Elt F)),
    unary main_arg3 main_v8 (broadcastInDim S8x1 ![0] bcast_S8_S8x1_0 : (⟨S8, .f32⟩ : BufTy).Contents (Elt F) → (⟨S8x1, .f32⟩ : BufTy).Contents (Elt F)),
    unary main_v8 main_v9 (broadcastInDim S8x32004 ![0, 1] bcast_S8x1_S8x32004_0_1 : (⟨S8x1, .f32⟩ : BufTy).Contents (Elt F) → (⟨S8x32004, .f32⟩ : BufTy).Contents (Elt F)),
    binary main_v7 main_v9 main_v10 (Host.divf : (⟨S8x32004, .f32⟩ : BufTy).Contents (Elt F) → (⟨S8x32004, .f32⟩ : BufTy).Contents (Elt F) → (⟨S8x32004, .f32⟩ : BufTy).Contents (Elt F)),
    unary main_v10 main_v11 (Host.negf : (⟨S8x32004, .f32⟩ : BufTy).Contents (Elt F) → (⟨S8x32004, .f32⟩ : BufTy).Contents (Elt F)),
    TRef.nullary (TRef.of (T := ⟨S8x32004, .i32⟩) main_call0_v0) (iotaInDim S8x32004 32 1),
    TRef.binary (TRef.of (T := ⟨S8x32004, .f32⟩) main_v11) (TRef.of (T := ⟨S8x32004, .i32⟩) main_call0_v0) (TRef.of (T := ⟨S8x32004, .f32⟩) main_call0_v1_0) (fun x y => (Host.sort2 S8x32004 1 comparator_f32_i32_d1 x y).1),
    TRef.binary (TRef.of (T := ⟨S8x32004, .f32⟩) main_v11) (TRef.of (T := ⟨S8x32004, .i32⟩) main_call0_v0) (TRef.of (T := ⟨S8x32004, .i32⟩) main_v12) (fun x y => (Host.sort2 S8x32004 1 comparator_f32_i32_d1 x y).2),
    TRef.nullary (TRef.of (T := ⟨S_, .i32⟩) main_call1_c) (constantI S_ 32 0#32),
    TRef.unary (TRef.of (T := ⟨S_, .i32⟩) main_call1_c) (TRef.of (T := ⟨S8x32004, .i32⟩) main_call1_v0) (broadcastInDim S8x32004 ![] bcast_S_S8x32004),
    TRef.binary (TRef.of (T := ⟨S8x32004, .i32⟩) main_v12) (TRef.of (T := ⟨S8x32004, .i32⟩) main_call1_v0) (TRef.of (T := ⟨S8x32004, .i1⟩) main_call1_v1) (cmpi .slt),
    TRef.nullary (TRef.of (T := ⟨S_, .i32⟩) main_call1_c_0) (constantI S_ 32 32004#32),
    TRef.unary (TRef.of (T := ⟨S_, .i32⟩) main_call1_c_0) (TRef.of (T := ⟨S8x32004, .i32⟩) main_call1_v2) (broadcastInDim S8x32004 ![] bcast_S_S8x32004),
    TRef.binary (TRef.of (T := ⟨S8x32004, .i32⟩) main_v12) (TRef.of (T := ⟨S8x32004, .i32⟩) main_call1_v2) (TRef.of (T := ⟨S8x32004, .i32⟩) main_call1_v3) addi,
    TRef.ternary (TRef.of (T := ⟨S8x32004, .i1⟩) main_call1_v1) (TRef.of (T := ⟨S8x32004, .i32⟩) main_call1_v3) (TRef.of (T := ⟨S8x32004, .i32⟩) main_v12) (TRef.of (T := ⟨S8x32004, .i32⟩) main_call1_v4) select,
    TRef.reshape (TRef.of (T := ⟨S8x32004, .i32⟩) main_call1_v4) (TRef.of (T := ⟨S8x32004x1, .i32⟩) main_call1_v5) (rfl : (.i32 : EltTy) = .i32) shapeCasts_S8x32004_S8x32004x1,
    TRef.nullary (TRef.of (T := ⟨S1, .i32⟩) main_call1_c_1) (constantI S1 32 32003#32),
    TRef.nullary (TRef.of (T := ⟨S_, .i32⟩) main_call1_c_2) (constantI S_ 32 0#32),
    TRef.unary (TRef.of (T := ⟨S_, .i32⟩) main_call1_c_2) (TRef.of (T := ⟨S8x32004x1, .i32⟩) main_call1_v6) (broadcastInDim S8x32004x1 ![] bcast_S_S8x32004x1),
    TRef.binary (TRef.of (T := ⟨S8x32004x1, .i32⟩) main_call1_v5) (TRef.of (T := ⟨S8x32004x1, .i32⟩) main_call1_v6) (TRef.of (T := ⟨S8x32004x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S8x32004x1, .i32⟩) main_call1_v9) (broadcastInDim S8x32004x1 ![0, 1, 2] bcast_S1x1x1_S8x32004x1_0_1_2),
    TRef.binary (TRef.of (T := ⟨S8x32004x1, .i32⟩) main_call1_v5) (TRef.of (T := ⟨S8x32004x1, .i32⟩) main_call1_v9) (TRef.of (T := ⟨S8x32004x1, .i1⟩) main_call1_v10) (cmpi .sle),
    TRef.binary (TRef.of (T := ⟨S8x32004x1, .i1⟩) main_call1_v7) (TRef.of (T := ⟨S8x32004x1, .i1⟩) main_call1_v10) (TRef.of (T := ⟨S8x32004x1, .i1⟩) main_call1_v11) andi,
    TRef.nullary (TRef.of (T := ⟨S_, .i1⟩) main_call1_c_3) (constantI S_ 1 1#1),
    TRef.binary (TRef.of (T := ⟨S8x32004x1, .i1⟩) main_call1_v11) (TRef.of (T := ⟨S_, .i1⟩) main_call1_c_3) (TRef.of (T := ⟨S8x32004, .i1⟩) main_call1_v12) (fun x v => Host.reduce IntOp.andi x v reducesTo_S8x32004x1_S8x32004_d2 h_S_),
    TRef.binary (TRef.of (T := ⟨S8x32004, .f32⟩) main_v10) (TRef.of (T := ⟨S8x32004x1, .i32⟩) main_call1_v5) (TRef.of (T := ⟨S8x32004, .f32⟩) main_call1_v13) (fun x i => Host.gather gather_S8x32004_S8x32004x1_S8x32004_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S8x32004, .f32⟩) main_call1_v14) (broadcastInDim S8x32004 ![] bcast_S_S8x32004),
    TRef.ternary (TRef.of (T := ⟨S8x32004, .i1⟩) main_call1_v12) (TRef.of (T := ⟨S8x32004, .f32⟩) main_call1_v13) (TRef.of (T := ⟨S8x32004, .f32⟩) main_call1_v14) (TRef.of (T := ⟨S8x32004, .f32⟩) main_v13) select,
    nullary main_cst (constant S_ .f32 0xFF800000#32),
    binary main_v13 main_cst main_v14 ((fun x v => Host.reduce FloatOps.maximumf x v reducesTo_S8x32004_S8_d1 h_S_) : (⟨S8x32004, .f32⟩ : BufTy).Contents (Elt F) → (⟨S_, .f32⟩ : BufTy).Contents (Elt F) → (⟨S8, .f32⟩ : BufTy).Contents (Elt F)),
    nullary main_cst_0 (constant S_ .f32 0xFF800000#32),
    unary main_cst_0 main_v15 (broadcastInDim S8 ![] bcast_S_S8 : (⟨S_, .f32⟩ : BufTy).Contents (Elt F) → (⟨S8, .f32⟩ : BufTy).Contents (Elt F)),
    binary main_v15 main_v14 main_v16 (maximumf : (⟨S8, .f32⟩ : BufTy).Contents (Elt F) → (⟨S8, .f32⟩ : BufTy).Contents (Elt F) → (⟨S8, .f32⟩ : BufTy).Contents (Elt F)),
    unary main_v16 main_v17 (broadcastInDim S8x1 ![0] bcast_S8_S8x1_0 : (⟨S8, .f32⟩ : BufTy).Contents (Elt F) → (⟨S8x1, .f32⟩ : BufTy).Contents (Elt F)),
    unary main_v17 main_v18 (broadcastInDim S8x32004 ![0, 1] bcast_S8x1_S8x32004_0_1 : (⟨S8x1, .f32⟩ : BufTy).Contents (Elt F) → (⟨S8x32004, .f32⟩ : BufTy).Contents (Elt F)),
    binary main_v13 main_v18 main_v19 (subf : (⟨S8x32004, .f32⟩ : BufTy).Contents (Elt F) → (⟨S8x32004, .f32⟩ : BufTy).Contents (Elt F) → (⟨S8x32004, .f32⟩ : BufTy).Contents (Elt F)),
    unary main_v19 main_v20 (Host.exp : (⟨S8x32004, .f32⟩ : BufTy).Contents (Elt F) → (⟨S8x32004, .f32⟩ : BufTy).Contents (Elt F)),
    nullary main_cst_1 (constant S_ .f32 0x00000000#32),
    binary main_v20 main_cst_1 main_v21 ((fun x v => Host.reduceAdd x v reducesTo_S8x32004_S8_d1 h_S_) : (⟨S8x32004, .f32⟩ : BufTy).Contents (Elt F) → (⟨S_, .f32⟩ : BufTy).Contents (Elt F) → (⟨S8, .f32⟩ : BufTy).Contents (Elt F)),
    unary main_v21 main_v22 (broadcastInDim S8x1 ![0] bcast_S8_S8x1_0 : (⟨S8, .f32⟩ : BufTy).Contents (Elt F) → (⟨S8x1, .f32⟩ : BufTy).Contents (Elt F)),
    unary main_v22 main_v23 (broadcastInDim S8x32004 ![0, 1] bcast_S8x1_S8x32004_0_1 : (⟨S8x1, .f32⟩ : BufTy).Contents (Elt F) → (⟨S8x32004, .f32⟩ : BufTy).Contents (Elt F)),
    binary main_v20 main_v23 main_v24 (Host.divf : (⟨S8x32004, .f32⟩ : BufTy).Contents (Elt F) → (⟨S8x32004, .f32⟩ : BufTy).Contents (Elt F) → (⟨S8x32004, .f32⟩ : BufTy).Contents (Elt F)),
    TRef.nullary (TRef.of (T := ⟨S_, .f32⟩) main_call2_call0_cst) (constant S_ .f32 0x00000000#32),
    TRef.unary (TRef.of (T := ⟨S_, .f32⟩) main_call2_call0_cst) (TRef.of (T := ⟨S_, .f32⟩) main_call2_call0_v0) (broadcastInDim S_ ![] bcast_S_S_),
    TRef.binary (TRef.of (T := ⟨S8x32004, .f32⟩) main_v24) (TRef.of (T := ⟨S_, .f32⟩) main_call2_call0_v0) (TRef.of (T := ⟨S8x32004, .f32⟩) main_v25) (fun x v => Host.reduceWindowAdd ![1, 32004] ![1, 1] ![0, 32003] ![0, 0] x v reduceWindows_S8x32004_S8x32004_w1s1p0_0_w32004s1p32003_0 h_S_),
    binary main_v25 main_v24 main_v26 (subf : (⟨S8x32004, .f32⟩ : BufTy).Contents (Elt F) → (⟨S8x32004, .f32⟩ : BufTy).Contents (Elt F) → (⟨S8x32004, .f32⟩ : BufTy).Contents (Elt F)),
    unary main_arg4 main_v27 (broadcastInDim S8x1 ![0] bcast_S8_S8x1_0 : (⟨S8, .f32⟩ : BufTy).Contents (Elt F) → (⟨S8x1, .f32⟩ : BufTy).Contents (Elt F)),
    unary main_v27 main_v28 (broadcastInDim S8x32004 ![0, 1] bcast_S8x1_S8x32004_0_1 : (⟨S8x1, .f32⟩ : BufTy).Contents (Elt F) → (⟨S8x32004, .f32⟩ : BufTy).Contents (Elt F)),
    binary main_v26 main_v28 main_v29 (cmpf .ogt : (⟨S8x32004, .f32⟩ : BufTy).Contents (Elt F) → (⟨S8x32004, .f32⟩ : BufTy).Contents (Elt F) → (⟨S8x32004, .i1⟩ : BufTy).Contents (Elt F)),
    nullary main_v30 (iotaInDim S32004 32 0),
    unary main_v30 main_v31 (broadcastInDim S1x32004 ![1] bcast_S32004_S1x32004_1 : (⟨S32004, .i32⟩ : BufTy).Contents (Elt F) → (⟨S1x32004, .i32⟩ : BufTy).Contents (Elt F)),
    unary main_arg5 main_v32 (broadcastInDim S1x32004 ![] bcast_S_S1x32004 : (⟨S_, .i32⟩ : BufTy).Contents (Elt F) → (⟨S1x32004, .i32⟩ : BufTy).Contents (Elt F)),
    binary main_v31 main_v32 main_v33 (cmpi .sge : (⟨S1x32004, .i32⟩ : BufTy).Contents (Elt F) → (⟨S1x32004, .i32⟩ : BufTy).Contents (Elt F) → (⟨S1x32004, .i1⟩ : BufTy).Contents (Elt F)),
    unary main_v33 main_v34 (broadcastInDim S8x32004 ![0, 1] bcast_S1x32004_S8x32004_0_1 : (⟨S1x32004, .i1⟩ : BufTy).Contents (Elt F) → (⟨S8x32004, .i1⟩ : BufTy).Contents (Elt F)),
    binary main_v29 main_v34 main_v35 (ori : (⟨S8x32004, .i1⟩ : BufTy).Contents (Elt F) → (⟨S8x32004, .i1⟩ : BufTy).Contents (Elt F) → (⟨S8x32004, .i1⟩ : BufTy).Contents (Elt F)),
    nullary main_cst_2 (constant S_ .f32 0xFF800000#32),
    TRef.unary (TRef.of (T := ⟨S_, .f32⟩) main_cst_2) (TRef.of (T := ⟨S_, .f32⟩) main_call3_v0) id,
    TRef.unary (TRef.of (T := ⟨S_, .f32⟩) main_call3_v0) (TRef.of (T := ⟨S8x32004, .f32⟩) main_call3_v1) (broadcastInDim S8x32004 ![] bcast_S_S8x32004),
    TRef.ternary (TRef.of (T := ⟨S8x32004, .i1⟩) main_v35) (TRef.of (T := ⟨S8x32004, .f32⟩) main_call3_v1) (TRef.of (T := ⟨S8x32004, .f32⟩) main_v13) (TRef.of (T := ⟨S8x32004, .f32⟩) main_v36) select,
    TRef.nullary (TRef.of (T := ⟨S8x32004, .i32⟩) main_call4_v0) (iotaInDim S8x32004 32 1),
    TRef.binary (TRef.of (T := ⟨S8x32004, .i32⟩) main_v12) (TRef.of (T := ⟨S8x32004, .i32⟩) main_call4_v0) (TRef.of (T := ⟨S8x32004, .i32⟩) main_call4_v1_0) (fun x y => (Host.sort2 S8x32004 1 comparator_i32_i32_d1 x y).1),
    TRef.binary (TRef.of (T := ⟨S8x32004, .i32⟩) main_v12) (TRef.of (T := ⟨S8x32004, .i32⟩) main_call4_v0) (TRef.of (T := ⟨S8x32004, .i32⟩) main_v37) (fun x y => (Host.sort2 S8x32004 1 comparator_i32_i32_d1 x y).2),
    TRef.nullary (TRef.of (T := ⟨S_, .i32⟩) main_call5_c) (constantI S_ 32 0#32),
    TRef.unary (TRef.of (T := ⟨S_, .i32⟩) main_call5_c) (TRef.of (T := ⟨S8x32004, .i32⟩) main_call5_v0) (broadcastInDim S8x32004 ![] bcast_S_S8x32004),
    TRef.binary (TRef.of (T := ⟨S8x32004, .i32⟩) main_v37) (TRef.of (T := ⟨S8x32004, .i32⟩) main_call5_v0) (TRef.of (T := ⟨S8x32004, .i1⟩) main_call5_v1) (cmpi .slt),
    TRef.nullary (TRef.of (T := ⟨S_, .i32⟩) main_call5_c_0) (constantI S_ 32 32004#32),
    TRef.unary (TRef.of (T := ⟨S_, .i32⟩) main_call5_c_0) (TRef.of (T := ⟨S8x32004, .i32⟩) main_call5_v2) (broadcastInDim S8x32004 ![] bcast_S_S8x32004),
    TRef.binary (TRef.of (T := ⟨S8x32004, .i32⟩) main_v37) (TRef.of (T := ⟨S8x32004, .i32⟩) main_call5_v2) (TRef.of (T := ⟨S8x32004, .i32⟩) main_call5_v3) addi,
    TRef.ternary (TRef.of (T := ⟨S8x32004, .i1⟩) main_call5_v1) (TRef.of (T := ⟨S8x32004, .i32⟩) main_call5_v3) (TRef.of (T := ⟨S8x32004, .i32⟩) main_v37) (TRef.of (T := ⟨S8x32004, .i32⟩) main_call5_v4) select,
    TRef.reshape (TRef.of (T := ⟨S8x32004, .i32⟩) main_call5_v4) (TRef.of (T := ⟨S8x32004x1, .i32⟩) main_call5_v5) (rfl : (.i32 : EltTy) = .i32) shapeCasts_S8x32004_S8x32004x1,
    TRef.nullary (TRef.of (T := ⟨S1, .i32⟩) main_call5_c_1) (constantI S1 32 32003#32),
    TRef.nullary (TRef.of (T := ⟨S_, .i32⟩) main_call5_c_2) (constantI S_ 32 0#32),
    TRef.unary (TRef.of (T := ⟨S_, .i32⟩) main_call5_c_2) (TRef.of (T := ⟨S8x32004x1, .i32⟩) main_call5_v6) (broadcastInDim S8x32004x1 ![] bcast_S_S8x32004x1),
    TRef.binary (TRef.of (T := ⟨S8x32004x1, .i32⟩) main_call5_v5) (TRef.of (T := ⟨S8x32004x1, .i32⟩) main_call5_v6) (TRef.of (T := ⟨S8x32004x1, .i1⟩) main_call5_v7) (cmpi .sge),
    TRef.unary (TRef.of (T := ⟨S1, .i32⟩) main_call5_c_1) (TRef.of (T := ⟨S1x1x1, .i32⟩) main_call5_v8) (broadcastInDim S1x1x1 ![2] bcast_S1_S1x1x1_2),
    TRef.unary (TRef.of (T := ⟨S1x1x1, .i32⟩) main_call5_v8) (TRef.of (T := ⟨S8x32004x1, .i32⟩) main_call5_v9) (broadcastInDim S8x32004x1 ![0, 1, 2] bcast_S1x1x1_S8x32004x1_0_1_2),
    TRef.binary (TRef.of (T := ⟨S8x32004x1, .i32⟩) main_call5_v5) (TRef.of (T := ⟨S8x32004x1, .i32⟩) main_call5_v9) (TRef.of (T := ⟨S8x32004x1, .i1⟩) main_call5_v10) (cmpi .sle),
    TRef.binary (TRef.of (T := ⟨S8x32004x1, .i1⟩) main_call5_v7) (TRef.of (T := ⟨S8x32004x1, .i1⟩) main_call5_v10) (TRef.of (T := ⟨S8x32004x1, .i1⟩) main_call5_v11) andi,
    TRef.nullary (TRef.of (T := ⟨S_, .i1⟩) main_call5_c_3) (constantI S_ 1 1#1),
    TRef.binary (TRef.of (T := ⟨S8x32004x1, .i1⟩) main_call5_v11) (TRef.of (T := ⟨S_, .i1⟩) main_call5_c_3) (TRef.of (T := ⟨S8x32004, .i1⟩) main_call5_v12) (fun x v => Host.reduce IntOp.andi x v reducesTo_S8x32004x1_S8x32004_d2 h_S_),
    TRef.binary (TRef.of (T := ⟨S8x32004, .f32⟩) main_v36) (TRef.of (T := ⟨S8x32004x1, .i32⟩) main_call5_v5) (TRef.of (T := ⟨S8x32004, .f32⟩) main_call5_v13) (fun x i => Host.gather gather_S8x32004_S8x32004x1_S8x32004_n_1_0_0_1_2_11 x i),
    TRef.nullary (TRef.of (T := ⟨S_, .f32⟩) main_call5_cst) (constant S_ .f32 0x7FC00000#32),
    TRef.unary (TRef.of (T := ⟨S_, .f32⟩) main_call5_cst) (TRef.of (T := ⟨S8x32004, .f32⟩) main_call5_v14) (broadcastInDim S8x32004 ![] bcast_S_S8x32004),
    TRef.ternary (TRef.of (T := ⟨S8x32004, .i1⟩) main_call5_v12) (TRef.of (T := ⟨S8x32004, .f32⟩) main_call5_v13) (TRef.of (T := ⟨S8x32004, .f32⟩) main_call5_v14) (TRef.of (T := ⟨S8x32004, .f32⟩) main_v38) select,
    nullary main_cst_3 (constant S_ .f32 0xFF800000#32),
    binary main_v38 main_cst_3 main_v39 ((fun x v => Host.reduce FloatOps.maximumf x v reducesTo_S8x32004_S8_d1 h_S_) : (⟨S8x32004, .f32⟩ : BufTy).Contents (Elt F) → (⟨S_, .f32⟩ : BufTy).Contents (Elt F) → (⟨S8, .f32⟩ : BufTy).Contents (Elt F)),
    nullary main_cst_4 (constant S_ .f32 0xFF800000#32),
    unary main_cst_4 main_v40 (broadcastInDim S8 ![] bcast_S_S8 : (⟨S_, .f32⟩ : BufTy).Contents (Elt F) → (⟨S8, .f32⟩ : BufTy).Contents (Elt F)),
    binary main_v40 main_v39 main_v41 (maximumf : (⟨S8, .f32⟩ : BufTy).Contents (Elt F) → (⟨S8, .f32⟩ : BufTy).Contents (Elt F) → (⟨S8, .f32⟩ : BufTy).Contents (Elt F)),
    unary main_v41 main_v42 (broadcastInDim S8x1 ![0] bcast_S8_S8x1_0 : (⟨S8, .f32⟩ : BufTy).Contents (Elt F) → (⟨S8x1, .f32⟩ : BufTy).Contents (Elt F)),
    unary main_v42 main_v43 (broadcastInDim S8x32004 ![0, 1] bcast_S8x1_S8x32004_0_1 : (⟨S8x1, .f32⟩ : BufTy).Contents (Elt F) → (⟨S8x32004, .f32⟩ : BufTy).Contents (Elt F)),
    binary main_v38 main_v43 main_v44 (subf : (⟨S8x32004, .f32⟩ : BufTy).Contents (Elt F) → (⟨S8x32004, .f32⟩ : BufTy).Contents (Elt F) → (⟨S8x32004, .f32⟩ : BufTy).Contents (Elt F)),
    unary main_v44 main_v45 (Host.exp : (⟨S8x32004, .f32⟩ : BufTy).Contents (Elt F) → (⟨S8x32004, .f32⟩ : BufTy).Contents (Elt F)),
    nullary main_cst_5 (constant S_ .f32 0x00000000#32),
    binary main_v45 main_cst_5 main_v46 ((fun x v => Host.reduceAdd x v reducesTo_S8x32004_S8_d1 h_S_) : (⟨S8x32004, .f32⟩ : BufTy).Contents (Elt F) → (⟨S_, .f32⟩ : BufTy).Contents (Elt F) → (⟨S8, .f32⟩ : BufTy).Contents (Elt F)),
    unary main_v46 main_v47 (broadcastInDim S8x1 ![0] bcast_S8_S8x1_0 : (⟨S8, .f32⟩ : BufTy).Contents (Elt F) → (⟨S8x1, .f32⟩ : BufTy).Contents (Elt F)),
    unary main_v47 main_v48 (broadcastInDim S8x32004 ![0, 1] bcast_S8x1_S8x32004_0_1 : (⟨S8x1, .f32⟩ : BufTy).Contents (Elt F) → (⟨S8x32004, .f32⟩ : BufTy).Contents (Elt F)),
    binary main_v45 main_v48 main_v49 (Host.divf : (⟨S8x32004, .f32⟩ : BufTy).Contents (Elt F) → (⟨S8x32004, .f32⟩ : BufTy).Contents (Elt F) → (⟨S8x32004, .f32⟩ : BufTy).Contents (Elt F)),
    TRef.nullary (TRef.of (T := ⟨S_, .f32⟩) main_call6_cst) (constant S_ .f32 0xFF800000#32),
    TRef.binary (TRef.of (T := ⟨S8x32004, .f32⟩) main_v38) (TRef.of (T := ⟨S_, .f32⟩) main_call6_cst) (TRef.of (T := ⟨S8, .f32⟩) main_call6_v0) (fun x v => Host.reduce FloatOps.maximumf x v reducesTo_S8x32004_S8_d1 h_S_),
    TRef.nullary (TRef.of (T := ⟨S_, .f32⟩) main_call6_cst_0) (constant S_ .f32 0xFF800000#32),
    TRef.unary (TRef.of (T := ⟨S_, .f32⟩) main_call6_cst_0) (TRef.of (T := ⟨S8, .f32⟩) main_call6_v1) (broadcastInDim S8 ![] bcast_S_S8),
    TRef.binary (TRef.of (T := ⟨S8, .f32⟩) main_call6_v1) (TRef.of (T := ⟨S8, .f32⟩) main_call6_v0) (TRef.of (T := ⟨S8, .f32⟩) main_call6_v2) maximumf,
    TRef.unary (TRef.of (T := ⟨S8, .f32⟩) main_call6_v2) (TRef.of (T := ⟨S8x1, .f32⟩) main_call6_v3) (broadcastInDim S8x1 ![0] bcast_S8_S8x1_0),
    TRef.unary (TRef.of (T := ⟨S8x1, .f32⟩) main_call6_v3) (TRef.of (T := ⟨S8x32004, .f32⟩) main_call6_v4) (broadcastInDim S8x32004 ![0, 1] bcast_S8x1_S8x32004_0_1),
    TRef.binary (TRef.of (T := ⟨S8x32004, .f32⟩) main_v38) (TRef.of (T := ⟨S8x32004, .f32⟩) main_call6_v4) (TRef.of (T := ⟨S8x32004, .f32⟩) main_call6_v5) subf,
    TRef.unary (TRef.of (T := ⟨S8x32004, .f32⟩) main_call6_v5) (TRef.of (T := ⟨S8x32004, .f32⟩) main_call6_v6) Host.exp,
    TRef.nullary (TRef.of (T := ⟨S_, .f32⟩) main_call6_cst_1) (constant S_ .f32 0x00000000#32),
    TRef.binary (TRef.of (T := ⟨S8x32004, .f32⟩) main_call6_v6) (TRef.of (T := ⟨S_, .f32⟩) main_call6_cst_1) (TRef.of (T := ⟨S8, .f32⟩) main_call6_v7) (fun x v => Host.reduceAdd x v reducesTo_S8x32004_S8_d1 h_S_),
    TRef.unary (TRef.of (T := ⟨S8, .f32⟩) main_call6_v7) (TRef.of (T := ⟨S8x1, .f32⟩) main_call6_v8) (broadcastInDim S8x1 ![0] bcast_S8_S8x1_0),
    TRef.unary (TRef.of (T := ⟨S8x1, .f32⟩) main_call6_v8) (TRef.of (T := ⟨S8x1, .f32⟩) main_call6_v9) Host.log,
    TRef.unary (TRef.of (T := ⟨S8x1, .f32⟩) main_call6_v9) (TRef.of (T := ⟨S8x32004, .f32⟩) main_call6_v10) (broadcastInDim S8x32004 ![0, 1] bcast_S8x1_S8x32004_0_1),
    TRef.binary (TRef.of (T := ⟨S8x32004, .f32⟩) main_call6_v5) (TRef.of (T := ⟨S8x32004, .f32⟩) main_call6_v10) (TRef.of (T := ⟨S8x32004, .f32⟩) main_v50) subf,
    TRef.nullary (TRef.of (T := ⟨S8x32004, .i32⟩) main_call7_v0) (iotaInDim S8x32004 32 1),
    TRef.nullary (TRef.of (T := ⟨S_, .f32⟩) main_call7_cst) (constant S_ .f32 0xFF800000#32),
    TRef.nullary (TRef.of (T := ⟨S_, .i32⟩) main_call7_c) (constantI S_ 32 0#32),
    TRef.quaternary (TRef.of (T := ⟨S8x32004, .f32⟩) main_v49) (TRef.of (T := ⟨S8x32004, .i32⟩) main_call7_v0) (TRef.of (T := ⟨S_, .f32⟩) main_call7_cst) (TRef.of (T := ⟨S_, .i32⟩) main_call7_c) (TRef.of (T := ⟨S8, .f32⟩) main_call7_v1_0) (fun x y u v j => (Host.argReduce reducer_argmax_f32_i32 x y u v reducesTo_S8x32004_S8_d1 h_S_ j).1),
    TRef.quaternary (TRef.of (T := ⟨S8x32004, .f32⟩) main_v49) (TRef.of (T := ⟨S8x32004, .i32⟩) main_call7_v0) (TRef.of (T := ⟨S_, .f32⟩) main_call7_cst) (TRef.of (T := ⟨S_, .i32⟩) main_call7_c) (TRef.of (T := ⟨S8, .i32⟩) main_v51) (fun x y u v j => (Host.argReduce reducer_argmax_f32_i32 x y u v reducesTo_S8x32004_S8_d1 h_S_ j).2) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., binary_bufs_sub .., unary_bufs_sub .., unary_bufs_sub .., binary_bufs_sub .., unary_bufs_sub .., reshape_bufs_sub .., unary_bufs_sub .., unary_bufs_sub .., unary_bufs_sub .., binary_bufs_sub .., unary_bufs_sub .., nullary_bufs_sub .., binary_bufs_sub .., binary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., unary_bufs_sub .., binary_bufs_sub .., unary_bufs_sub .., binary_bufs_sub .., nullary_bufs_sub .., unary_bufs_sub .., unary_bufs_sub .., ternary_bufs_sub .., nullary_bufs_sub .., binary_bufs_sub .., binary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., nullary_bufs_sub .., nullary_bufs_sub .., quaternary_bufs_sub .., quaternary_bufs_sub ..⟩

set_option maxRecDepth 8192 in
/-- `main_v4`'s composed term of the arguments (named: it is used 2 times). -/
def res_main_v4 (V0 : Valuation τ sig (Elt F)) : (Proc.devRef .tc main_v4 : DevRef τ sig).ty.Contents (Elt F) :=
  addf (Host.dotGeneral dot_S8x4096_S4096x32256_S8x32256_1_0_0_1_n_n none (V0 (Proc.devRef .tc main_arg1)) (transpose S4096x32256 [1, 0] (V0 (Proc.devRef .tc main_arg0)) transposes_S32256x4096_S4096x32256_1_0)) (broadcastInDim S8x32256 ![0, 1] bcast_S1x32256_S8x32256_0_1 (broadcastInDim S1x32256 ![1] bcast_S32256_S1x32256_1 (V0 (Proc.devRef .tc main_arg2))))

set_option maxRecDepth 8192 in
/-- `main_v10`'s composed term of the arguments (named: it is used 2 times). -/
def res_main_v10 (V0 : Valuation τ sig (Elt F)) : (Proc.devRef .tc main_v10 : DevRef τ sig).ty.Contents (Elt F) :=
  Host.divf (extractStridedSlice S8x32004 ![0, 0] (res_main_v4 V0) slices_S8x32256_S8x32004_0_0) (broadcastInDim S8x32004 ![0, 1] bcast_S8x1_S8x32004_0_1 (broadcastInDim S8x1 ![0] bcast_S8_S8x1_0 (V0 (Proc.devRef .tc main_arg3))))

set_option maxRecDepth 8192 in
/-- `main_v11`'s composed term of the arguments (named: it is used 2 times). -/
def res_main_v11 (V0 : Valuation τ sig (Elt F)) : (Proc.devRef .tc main_v11 : DevRef τ sig).ty.Contents (Elt F) :=
  Host.negf (res_main_v10 V0)

set_option maxRecDepth 8192 in
/-- `main_call0_v0`'s composed term of the arguments (named: it is used 2 times). -/
def res_main_call0_v0 (V0 : Valuation τ sig (Elt F)) : (Proc.devRef .tc main_call0_v0 : DevRef τ sig).ty.Contents (Elt F) :=
  iotaInDim S8x32004 32 1

set_option maxRecDepth 8192 in
/-- `main_v12`'s composed term of the arguments (named: it is used 5 times). -/
def res_main_v12 (V0 : Valuation τ sig (Elt F)) : (Proc.devRef .tc main_v12 : DevRef τ sig).ty.Contents (Elt F) :=
  (Host.sort2 S8x32004 1 comparator_f32_i32_d1 (res_main_v11 V0) (res_main_call0_v0 V0)).2

set_option maxRecDepth 8192 in
/-- `main_call1_v5`'s composed term of the arguments (named: it is used 3 times). -/
def res_main_call1_v5 (V0 : Valuation τ sig (Elt F)) : (Proc.devRef .tc main_call1_v5 : DevRef τ sig).ty.Contents (Elt F) :=
  shapeCast _ (select (cmpi .slt (res_main_v12 V0) (broadcastInDim S8x32004 ![] bcast_S_S8x32004 (constantI S_ 32 0#32))) (addi (res_main_v12 V0) (broadcastInDim S8x32004 ![] bcast_S_S8x32004 (constantI S_ 32 32004#32))) (res_main_v12 V0)) shapeCasts_S8x32004_S8x32004x1

set_option maxRecDepth 8192 in
/-- `main_v13`'s composed term of the arguments (named: it is used 3 times). -/
def res_main_v13 (V0 : Valuation τ sig (Elt F)) : (Proc.devRef .tc main_v13 : DevRef τ sig).ty.Contents (Elt F) :=
  select (Host.reduce IntOp.andi (andi (cmpi .sge (res_main_call1_v5 V0) (broadcastInDim S8x32004x1 ![] bcast_S_S8x32004x1 (constantI S_ 32 0#32))) (cmpi .sle (res_main_call1_v5 V0) (broadcastInDim S8x32004x1 ![0, 1, 2] bcast_S1x1x1_S8x32004x1_0_1_2 (broadcastInDim S1x1x1 ![2] bcast_S1_S1x1x1_2 (constantI S1 32 32003#32))))) (constantI S_ 1 1#1) reducesTo_S8x32004x1_S8x32004_d2 h_S_) (Host.gather gather_S8x32004_S8x32004x1_S8x32004_n_1_0_0_1_2_11 (res_main_v10 V0) (res_main_call1_v5 V0)) (broadcastInDim S8x32004 ![] bcast_S_S8x32004 (constant S_ .f32 0x7FC00000#32))

set_option maxRecDepth 8192 in
/-- `main_v20`'s composed term of the arguments (named: it is used 2 times). -/
def res_main_v20 (V0 : Valuation τ sig (Elt F)) : (Proc.devRef .tc main_v20 : DevRef τ sig).ty.Contents (Elt F) :=
  Host.exp (subf (res_main_v13 V0) (broadcastInDim S8x32004 ![0, 1] bcast_S8x1_S8x32004_0_1 (broadcastInDim S8x1 ![0] bcast_S8_S8x1_0 (maximumf (broadcastInDim S8 ![] bcast_S_S8 (constant S_ .f32 0xFF800000#32)) (Host.reduce FloatOps.maximumf (res_main_v13 V0) (constant S_ .f32 0xFF800000#32) reducesTo_S8x32004_S8_d1 h_S_)))))

set_option maxRecDepth 8192 in
/-- `main_v24`'s composed term of the arguments (named: it is used 2 times). -/
def res_main_v24 (V0 : Valuation τ sig (Elt F)) : (Proc.devRef .tc main_v24 : DevRef τ sig).ty.Contents (Elt F) :=
  Host.divf (res_main_v20 V0) (broadcastInDim S8x32004 ![0, 1] bcast_S8x1_S8x32004_0_1 (broadcastInDim S8x1 ![0] bcast_S8_S8x1_0 (Host.reduceAdd (res_main_v20 V0) (constant S_ .f32 0x00000000#32) reducesTo_S8x32004_S8_d1 h_S_)))

set_option maxRecDepth 8192 in
/-- `main_call4_v0`'s composed term of the arguments (named: it is used 2 times). -/
def res_main_call4_v0 (V0 : Valuation τ sig (Elt F)) : (Proc.devRef .tc main_call4_v0 : DevRef τ sig).ty.Contents (Elt F) :=
  iotaInDim S8x32004 32 1

set_option maxRecDepth 8192 in
/-- `main_v37`'s composed term of the arguments (named: it is used 3 times). -/
def res_main_v37 (V0 : Valuation τ sig (Elt F)) : (Proc.devRef .tc main_v37 : DevRef τ sig).ty.Contents (Elt F) :=
  (Host.sort2 S8x32004 1 comparator_i32_i32_d1 (res_main_v12 V0) (res_main_call4_v0 V0)).2

set_option maxRecDepth 8192 in
/-- `main_call5_v5`'s composed term of the arguments (named: it is used 3 times). -/
def res_main_call5_v5 (V0 : Valuation τ sig (Elt F)) : (Proc.devRef .tc main_call5_v5 : DevRef τ sig).ty.Contents (Elt F) :=
  shapeCast _ (select (cmpi .slt (res_main_v37 V0) (broadcastInDim S8x32004 ![] bcast_S_S8x32004 (constantI S_ 32 0#32))) (addi (res_main_v37 V0) (broadcastInDim S8x32004 ![] bcast_S_S8x32004 (constantI S_ 32 32004#32))) (res_main_v37 V0)) shapeCasts_S8x32004_S8x32004x1

set_option maxRecDepth 8192 in
/-- `main_v38`'s composed term of the arguments (named: it is used 4 times). -/
def res_main_v38 (V0 : Valuation τ sig (Elt F)) : (Proc.devRef .tc main_v38 : DevRef τ sig).ty.Contents (Elt F) :=
  select (Host.reduce IntOp.andi (andi (cmpi .sge (res_main_call5_v5 V0) (broadcastInDim S8x32004x1 ![] bcast_S_S8x32004x1 (constantI S_ 32 0#32))) (cmpi .sle (res_main_call5_v5 V0) (broadcastInDim S8x32004x1 ![0, 1, 2] bcast_S1x1x1_S8x32004x1_0_1_2 (broadcastInDim S1x1x1 ![2] bcast_S1_S1x1x1_2 (constantI S1 32 32003#32))))) (constantI S_ 1 1#1) reducesTo_S8x32004x1_S8x32004_d2 h_S_) (Host.gather gather_S8x32004_S8x32004x1_S8x32004_n_1_0_0_1_2_11 (select (ori (cmpf .ogt (subf (Host.reduceWindowAdd ![1, 32004] ![1, 1] ![0, 32003] ![0, 0] (res_main_v24 V0) (broadcastInDim S_ ![] bcast_S_S_ (constant S_ .f32 0x00000000#32)) reduceWindows_S8x32004_S8x32004_w1s1p0_0_w32004s1p32003_0 h_S_) (res_main_v24 V0)) (broadcastInDim S8x32004 ![0, 1] bcast_S8x1_S8x32004_0_1 (broadcastInDim S8x1 ![0] bcast_S8_S8x1_0 (V0 (Proc.devRef .tc main_arg4))))) (broadcastInDim S8x32004 ![0, 1] bcast_S1x32004_S8x32004_0_1 (cmpi .sge (broadcastInDim S1x32004 ![1] bcast_S32004_S1x32004_1 (iotaInDim S32004 32 0)) (broadcastInDim S1x32004 ![] bcast_S_S1x32004 (V0 (Proc.devRef .tc main_arg5)))))) (broadcastInDim S8x32004 ![] bcast_S_S8x32004 (id (constant S_ .f32 0xFF800000#32))) (res_main_v13 V0)) (res_main_call5_v5 V0)) (broadcastInDim S8x32004 ![] bcast_S_S8x32004 (constant S_ .f32 0x7FC00000#32))

set_option maxRecDepth 8192 in
/-- `main_v45`'s composed term of the arguments (named: it is used 2 times). -/
def res_main_v45 (V0 : Valuation τ sig (Elt F)) : (Proc.devRef .tc main_v45 : DevRef τ sig).ty.Contents (Elt F) :=
  Host.exp (subf (res_main_v38 V0) (broadcastInDim S8x32004 ![0, 1] bcast_S8x1_S8x32004_0_1 (broadcastInDim S8x1 ![0] bcast_S8_S8x1_0 (maximumf (broadcastInDim S8 ![] bcast_S_S8 (constant S_ .f32 0xFF800000#32)) (Host.reduce FloatOps.maximumf (res_main_v38 V0) (constant S_ .f32 0xFF800000#32) reducesTo_S8x32004_S8_d1 h_S_)))))

set_option maxRecDepth 8192 in
/-- `main_call6_v5`'s composed term of the arguments (named: it is used 2 times). -/
def res_main_call6_v5 (V0 : Valuation τ sig (Elt F)) : (Proc.devRef .tc main_call6_v5 : DevRef τ sig).ty.Contents (Elt F) :=
  subf (res_main_v38 V0) (broadcastInDim S8x32004 ![0, 1] bcast_S8x1_S8x32004_0_1 (broadcastInDim S8x1 ![0] bcast_S8_S8x1_0 (maximumf (broadcastInDim S8 ![] bcast_S_S8 (constant S_ .f32 0xFF800000#32)) (Host.reduce FloatOps.maximumf (res_main_v38 V0) (constant S_ .f32 0xFF800000#32) reducesTo_S8x32004_S8_d1 h_S_))))

set_option maxRecDepth 8192 in
/-- The masked distribution the arg-max is taken of. -/
def res_main_v49 (V0 : Valuation τ sig (Elt F)) : (Proc.devRef .tc main_v49 : DevRef τ sig).ty.Contents (Elt F) :=
  Host.divf (res_main_v45 V0) (broadcastInDim S8x32004 ![0, 1] bcast_S8x1_S8x32004_0_1 (broadcastInDim S8x1 ![0] bcast_S8_S8x1_0 (Host.reduceAdd (res_main_v45 V0) (constant S_ .f32 0x00000000#32) reducesTo_S8x32004_S8_d1 h_S_)))

set_option maxRecDepth 8192 in
set_option maxHeartbeats 48800000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v51) = (fun j => (Host.argReduce reducer_argmax_f32_i32 (res_main_v49 (launchContents m c)) (iotaInDim S8x32004 32 1) (constant S_ .f32 0xFF800000#32) (constantI S_ 32 0#32) reducesTo_S8x32004_S8_d1 h_S_ j).2)
      ∧ r.2.mem ((c.tc : Thread nD τ).loc main_v50) = subf (res_main_call6_v5 (launchContents m c)) (broadcastInDim S8x32004 ![0, 1] bcast_S8x1_S8x32004_0_1 (Host.log (broadcastInDim S8x1 ![0] bcast_S8_S8x1_0 (Host.reduceAdd (Host.exp (res_main_call6_v5 (launchContents m c))) (constant S_ .f32 0x00000000#32) reducesTo_S8x32004_S8_d1 h_S_))))
      ∧ r.2.mem ((c.tc : Thread nD τ).loc main_v6) = shapeCast _ (extractStridedSlice S8x1 ![0, 32255] (res_main_v4 (launchContents m c)) slices_S8x32256_S8x1_0_32255) shapeCasts_S8x1_S8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v51).trans (by simp only [ops, TRef.binary, TRef.nullary, TRef.quaternary, TRef.reshape, TRef.ternary, TRef.unary, TRef.toBuf, TRef.ofBuf, cast_eq]; after_results_simp <;> rfl),
      (h c main_v50).trans (by simp only [ops, TRef.binary, TRef.nullary, TRef.quaternary, TRef.reshape, TRef.ternary, TRef.unary, TRef.toBuf, TRef.ofBuf, cast_eq]; after_results_simp <;> rfl),
      (h c main_v6).trans (by simp only [ops, TRef.binary, TRef.nullary, TRef.quaternary, TRef.reshape, TRef.ternary, TRef.unary, TRef.toBuf, TRef.ofBuf, cast_eq]; after_results_simp <;> rfl),
      (h c main_arg0).trans (by simp only [ops, TRef.binary, TRef.nullary, TRef.quaternary, TRef.reshape, TRef.ternary, TRef.unary, TRef.toBuf, TRef.ofBuf, cast_eq]; after_results_simp <;> rfl),
      (h c main_arg1).trans (by simp only [ops, TRef.binary, TRef.nullary, TRef.quaternary, TRef.reshape, TRef.ternary, TRef.unary, TRef.toBuf, TRef.ofBuf, cast_eq]; after_results_simp <;> rfl),
      (h c main_arg2).trans (by simp only [ops, TRef.binary, TRef.nullary, TRef.quaternary, TRef.reshape, TRef.ternary, TRef.unary, TRef.toBuf, TRef.ofBuf, cast_eq]; after_results_simp <;> rfl),
      (h c main_arg3).trans (by simp only [ops, TRef.binary, TRef.nullary, TRef.quaternary, TRef.reshape, TRef.ternary, TRef.unary, TRef.toBuf, TRef.ofBuf, cast_eq]; after_results_simp <;> rfl),
      (h c main_arg4).trans (by simp only [ops, TRef.binary, TRef.nullary, TRef.quaternary, TRef.reshape, TRef.ternary, TRef.unary, TRef.toBuf, TRef.ofBuf, cast_eq]; after_results_simp <;> rfl),
      (h c main_arg5).trans (by simp only [ops, TRef.binary, TRef.nullary, TRef.quaternary, TRef.reshape, TRef.ternary, TRef.unary, TRef.toBuf, TRef.ofBuf, cast_eq]; after_results_simp <;> rfl)⟩)
    (run_seq scopedRefs_eq scopedSems_eq defs main (fun _ => ops) main_eq (fun _ => ops_sub) m ρ)

end Cert.ReferenceIdeal.Hand

end
-- ==== Proof.Ideal.Trip.lean ====
/-
  One trip of the top-k loop as a recursion: each lane keeps the seven largest of the masked columns it has met, an
  insertion per chunk, and seven row maxima are then read off by a cascade of comparisons.
-/
module

public import proofs.«01_k».proof.Proof.Gen.KernelIdeal
public import proofs.«01_k».proof.Proof.Gen.KernelIdeal.Loops

@[expose] public section

noncomputable section

namespace Cert.KernelIdeal.Hand

open Cert.KernelIdeal Cert.KernelIdeal.Gen Idealize.ShloMosaic

variable {F : FTy → Type} [FloatOps F] [Named F]

/-- The seven lists, largest first. -/
structure Lists (F : FTy → Type) where
  a0 : FVec F S8x512 .f32
  a1 : FVec F S8x512 .f32
  a2 : FVec F S8x512 .f32
  a3 : FVec F S8x512 .f32
  a4 : FVec F S8x512 .f32
  a5 : FVec F S8x512 .f32
  a6 : FVec F S8x512 .f32

/-- The mask at every lane. -/
def maskV : FVec F S8x512 .f32 := broadcast S8x512 (Named.named κ "mask" 0xF149F2CA#32)

/-- A chunk lies inside the row buffer. -/
theorem chunk_in (n : ℕ) (h : n < 63) : ∀ a, (![0, 512 * n] : Fin 2 → ℕ) a + S8x512.size a ≤ S8x32256.size a := by
  intro b
  fin_cases b
  · show 0 + 8 ≤ 8; omega
  · show 512 * n + 512 ≤ 32256; omega

/-- Chunk `n` of the row buffer. -/
def chunk (arg8 : Memref sig .tc .vmem S8x32256 .f32) (X : BufTy.Contents (Elt F) arg8.view.ty) (n : ℕ) : Vec F S8x512 .f32 :=
  if h : n < 63 then View.readAt (Elt F) arg8.view (Rect.unit (s := S8x32256) ![0, 512 * n] S8x512.size (chunk_in n h)).toLoadRect X else maskV

/-- The chunk with what is not below the row's threshold masked. -/
def below (m : Vec F S8x1 .f32) (v : Vec F S8x512 .f32) : Vec F S8x512 .f32 :=
  select (cmpf .olt v (broadcastTo S8x512 m broadcasts_S8x1_S8x512)) v maskV

/-- One insertion: each list keeps the larger and hands the smaller on. -/
def insert (a : Lists F) (t : FVec F S8x512 .f32) : Lists F :=
  let t1 := minimumf a.a0 t
  let t2 := minimumf a.a1 t1
  let t3 := minimumf a.a2 t2
  let t4 := minimumf a.a3 t3
  let t5 := minimumf a.a4 t4
  let t6 := minimumf a.a5 t5
  ⟨maximumf a.a0 t, maximumf a.a1 t1, maximumf a.a2 t2, maximumf a.a3 t3, maximumf a.a4 t4, maximumf a.a5 t5, maximumf a.a6 t6⟩

/-- The lists after `n` chunks. -/
def lists (m : Vec F S8x1 .f32) (c : ℕ → Vec F S8x512 .f32) : ℕ → Lists F
  | 0 => ⟨maskV, maskV, maskV, maskV, maskV, maskV, maskV⟩
  | n + 1 => insert (lists m c n) (below m (c n))

/-- The largest list entry below the threshold, lane by lane: the first of `a0 … a6` that is below it. -/
def cascade (a : Lists F) (t : FVec F S8x1 .f32) : FVec F S8x512 .f32 :=
  let u := broadcastTo S8x512 t broadcasts_S8x1_S8x512
  select (cmpf .olt a.a0 u) a.a0 <| select (cmpf .olt a.a1 u) a.a1 <| select (cmpf .olt a.a2 u) a.a2 <|
    select (cmpf .olt a.a3 u) a.a3 <| select (cmpf .olt a.a4 u) a.a4 <| select (cmpf .olt a.a5 u) a.a5 <|
    select (cmpf .olt a.a6 u) a.a6 maskV

/-- A row's largest entry over the lanes. -/
def rowmax (c : FVec F S8x512 .f32) : FVec F S8x1 .f32 :=
  shapeCast S8x1 (multiReduction .maximumf [1] S8 c 0xFF800000#32 reduces_S8x512_S8 (.inl rfl) rfl) shapeCasts_S8_S8x1

/-- The row maxima a trip reads off, the first from the first list and each later one below the one before. -/
def nexts (a : Lists F) : ℕ → FVec F S8x1 .f32
  | 0 => rowmax a.a0
  | d + 1 => rowmax (cascade a (nexts a d))

/-- The column numbers of the value buffer. -/
def cols : IVec S8x128 32 := iota .tc S8x128 32 [1] iota_S8x128_d1_w32

/-- One column of the value buffer replaced. -/
def put (w : BitVec 32) (t : FVec F S8x1 .f32) (vals : FVec F S8x128 .f32) : FVec F S8x128 .f32 :=
  select (cmpi .eq cols (broadcast S8x128 w)) (broadcastTo S8x128 (shapeCast S8x1 t shapeCasts_S8x1_S8x1) broadcasts_S8x1_S8x128) vals

/-- The first column a trip writes. -/
def base (k : ℕ) : BitVec 32 := Scalar.addi 1#32 (Scalar.muli (Scf.iv 0#32 1#32 k) 7#32)

/-- A trip: the seven maxima below the carried one, put into seven columns. -/
def trip (c : ℕ → Vec F S8x512 .f32) (k : ℕ) (acc : Vec F S8x1 .f32 × FVec F S8x128 .f32) : Vec F S8x1 .f32 × FVec F S8x128 .f32 :=
  let a := lists acc.1 c 63
  (nexts a 6,
   put (Scalar.addi (base k) 6#32) (nexts a 6) <| put (Scalar.addi (base k) 5#32) (nexts a 5) <|
   put (Scalar.addi (base k) 4#32) (nexts a 4) <| put (Scalar.addi (base k) 3#32) (nexts a 3) <|
   put (Scalar.addi (base k) 2#32) (nexts a 2) <| put (Scalar.addi (base k) 1#32) (nexts a 1) <|
   put (base k) (nexts a 0) acc.2)

variable (c : Dev nD) (bd : Option (Variants.none).V) (i : grid0.Coords) (arg1 : Memref sig .tc .vmem S8x4096 .f32) (harg1 : arg1.IsWhole)
  (arg2 : Memref sig .tc .vmem S768x4096 .f32) (harg2 : arg2.IsWhole) (arg3 : Memref sig .tc .vmem S1x768 .f32) (harg3 : arg3.IsWhole)
  (arg4 : Memref sig .tc .vmem S8x128 .f32) (harg4 : arg4.IsWhole) (arg5 : Memref sig .tc .vmem S8x1 .i32) (harg5 : arg5.IsWhole)
  (arg6 : Memref sig .tc .vmem S8x32004 .f32) (harg6 : arg6.IsWhole) (arg7 : Memref sig .tc .vmem S8x1 .f32) (harg7 : arg7.IsWhole)
  (arg8 : Memref sig .tc .vmem S8x32256 .f32) (harg8 : arg8.IsWhole) (arg9 : Memref sig .tc .vmem S8x128 .f32) (harg9 : arg9.IsWhole)
  (v8 : FVec F S8x768 .f32) (h3 : k0_cond3 i = 1#1) (X : BufTy.Contents (Elt F) arg8.view.ty)

set_option maxRecDepth 100000 in
/-- The run's trip is the recursion's. -/
theorem tripR_eq (k : Fin k0_t1_loop.trips) (acc : Vec F S8x1 .f32 × FVec F S8x128 .f32) :
    tripR_k0_t1 Variants.none c bd i arg1 harg1 arg2 harg2 arg3 harg3 arg4 harg4 arg5 harg5 arg6 harg6 arg7 harg7 arg8 harg8 arg9 harg9 v8 h3
        cols X k acc = trip (chunk arg8 X) k.val acc := by
  unfold tripR_k0_t1 trip_k0_t1
  apply Prod.ext
  · rfl
  · rfl

/-- The loop's carried value after `n` trips. -/
def trips (ch : ℕ → Vec F S8x512 .f32) (init : Vec F S8x1 .f32 × FVec F S8x128 .f32) : ℕ → Vec F S8x1 .f32 × FVec F S8x128 .f32
  | 0 => init
  | n + 1 => trip ch n (trips ch init n)

theorem st_eq (init : Vec F S8x1 .f32 × FVec F S8x128 .f32) (n : ℕ) (hn : n ≤ k0_t1_loop.trips) :
    st_k0_t1 Variants.none c bd i arg1 harg1 arg2 harg2 arg3 harg3 arg4 harg4 arg5 harg5 arg6 harg6 arg7 harg7 arg8 harg8 arg9 harg9 v8 h3
        cols X init n = trips (chunk arg8 X) init n := by
  induction n with
  | zero => rfl
  | succ n ih =>
    rw [st_k0_t1_succ Variants.none c bd i arg1 harg1 arg2 harg2 arg3 harg3 arg4 harg4 arg5 harg5 arg6 harg6 arg7 harg7 arg8 harg8 arg9 harg9 v8 h3
        cols X init ⟨n, hn⟩, tripR_eq]
    show trip _ n _ = trip _ n _
    rw [ih (by omega)]

end Cert.KernelIdeal.Hand
-- ==== Proof.Ideal.Values.lean ====
/-
  What the body leaves at a grid point, as functions of what it finds: the row buffer with a tile put into it, the
  running maximum, sum and index replaced, and at the last point the three results.
-/
module

public import proofs.«01_k».proof.Proof.Ideal.Trip
public import Idealize.ShloMosaic.Lib.VecWindow

@[expose] public section

noncomputable section

namespace Cert.KernelIdeal.Hand

open Cert.KernelIdeal Cert.KernelIdeal.Gen Idealize.ShloMosaic

variable {F : FTy → Type} [FloatOps F] [Named F]

theorem col_in (k : ℕ) (h : k < 128) : ∀ a, (![0, k] : Fin 2 → ℕ) a + S8x1.size a ≤ S8x128.size a := by
  intro b
  fin_cases b
  · show 0 + 8 ≤ 8; omega
  · show k + 1 ≤ 128; omega

/-- Column `k` of a narrow buffer. -/
def col (P : Vec F S8x128 .f32) (k : ℕ) (h : k < 128) : Vec F S8x1 .f32 := VecWindow.window P ![0, k] S8x1.size (col_in k h)

variable (i : grid0.Coords) (d1 : Vec F S8x4096 .f32) (d2 : Vec F S768x4096 .f32) (d3 : Vec F S1x768 .f32) (d4 : Vec F S8x128 .f32)

/-- A point's tile of scaled logits, its row maxima, their places and its row sums. -/
def tileX : FVec F S8x768 .f32 := k0_pay832 i (col d4 0 (by omega)) d1 d2 d3
def tileM : FVec F S8x1 .f32 := k0_pay833 i (col d4 0 (by omega)) d1 d2 d3
def tileI : FVec F S8x1 .f32 := k0_pay834 i (col d4 0 (by omega)) d1 d2 d3
def tileZ : FVec F S8x1 .f32 := k0_pay835 i (col d4 0 (by omega)) d1 d2 d3

/-- The row buffer with the point's tile put in its place. -/
def rows (d8 : Vec F S8x32256 .f32) : Vec F S8x32256 .f32 := VecWindow.put d8 (k0_off1 i) S8x768.size (tileX i d1 d2 d3 d4)

/-- Three columns replaced. -/
def put3 (d9 : Vec F S8x128 .f32) (a b c : FVec F S8x1 .f32) : Vec F S8x128 .f32 :=
  VecWindow.put (VecWindow.put (VecWindow.put d9 ![0, 0] S8x1.size a) ![0, 1] S8x1.size b) ![0, 2] S8x1.size c

theorem col_put3_0 (d9 : Vec F S8x128 .f32) (a b c : FVec F S8x1 .f32) (h : 0 < 128) : col (put3 d9 a b c) 0 h = a := by
  unfold col put3
  rw [VecWindow.window_put_of_disjoint _ _ _ _ _ _ _ 1 (.inl (by decide)), VecWindow.window_put_of_disjoint _ _ _ _ _ _ _ 1 (.inl (by decide)),
    VecWindow.window_put_same]
theorem col_put3_1 (d9 : Vec F S8x128 .f32) (a b c : FVec F S8x1 .f32) (h : 1 < 128) : col (put3 d9 a b c) 1 h = b := by
  unfold col put3
  rw [VecWindow.window_put_of_disjoint _ _ _ _ _ _ _ 1 (.inl (by decide)), VecWindow.window_put_same]
theorem col_put3_2 (d9 : Vec F S8x128 .f32) (a b c : FVec F S8x1 .f32) (h : 2 < 128) : col (put3 d9 a b c) 2 h = c := by
  unfold col put3
  rw [VecWindow.window_put_same]

/-- The running values after the first point. -/
def first (d9 : Vec F S8x128 .f32) : Vec F S8x128 .f32 :=
  put3 d9 (k0_pay1 (tileM i d1 d2 d3 d4)) (k0_pay2 (tileZ i d1 d2 d3 d4)) (k0_pay3 (tileI i d1 d2 d3 d4))

/-- The running values after a later point. -/
def merge (d9 : Vec F S8x128 .f32) : Vec F S8x128 .f32 :=
  put3 d9 (k0_pay5 (tileM i d1 d2 d3 d4) (col d9 0 (by omega)))
    (k0_pay6 (tileM i d1 d2 d3 d4) (tileZ i d1 d2 d3 d4) (col d9 0 (by omega)) (col d9 1 (by omega)))
    (k0_pay7 (tileM i d1 d2 d3 d4) (tileI i d1 d2 d3 d4) (col d9 0 (by omega)) (col d9 2 (by omega)))

/-- Chunk `n` of the rows. -/
def chunkV (x : Vec F S8x32256 .f32) (n : ℕ) : Vec F S8x512 .f32 :=
  if h : n < 63 then VecWindow.window x ![0, 512 * n] S8x512.size (chunk_in n h) else maskV

theorem chunk_eq (arg8 : Memref sig .tc .vmem S8x32256 .f32) (X : BufTy.Contents (Elt F) arg8.view.ty) :
    chunk arg8 X = chunkV (arg8.view.read (Elt F) X) := rfl

/-- The largest values of each row in order, from the finished rows and their maxima. -/
def vals (x : Vec F S8x32256 .f32) (mx : Vec F S8x1 .f32) : FVec F S8x128 .f32 :=
  (trips (chunkV x) (mx, k0_pay822 mx) 7).2

/-- The token. -/
def outTok (ix : Vec F S8x1 .f32) : IVec S8x1 32 := k0_pay820 ix
/-- The rank logit. -/
def outRank : FVec F S8x1 .f32 := k0_pay821 (k0_pay829 d1 d2 d3)
/-- The log-probabilities. -/
def outLp (x : Vec F S8x32256 .f32) (mx z : Vec F S8x1 .f32) : FVec F S8x32004 .f32 :=
  k0_pay8 mx (k0_pay825 (vals x mx)) k0_pay826
    (k0_pay827 (col d4 1 (by omega)) mx z (vals x mx)) (k0_pay828 (col d4 2 (by omega))) x

end Cert.KernelIdeal.Hand
-- ==== Proof.Ideal.Points.lean ====
/-
  The kernel's body at each kind of grid point, with what it leaves.
-/
module

public import proofs.«01_k».proof.Proof.Ideal.Body
public import proofs.«01_k».proof.Proof.Ideal.Values

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem run_first (c : Dev nD) (i : grid0.Coords)
    (arg1 : Memref sig .tc .vmem S8x4096 .f32) (harg1 : arg1.IsWhole) (arg2 : Memref sig .tc .vmem S768x4096 .f32) (harg2 : arg2.IsWhole)
    (arg3 : Memref sig .tc .vmem S1x768 .f32) (harg3 : arg3.IsWhole) (arg4 : Memref sig .tc .vmem S8x128 .f32) (harg4 : arg4.IsWhole)
    (arg5 : Memref sig .tc .vmem S8x1 .i32) (harg5 : arg5.IsWhole) (arg6 : Memref sig .tc .vmem S8x32004 .f32) (harg6 : arg6.IsWhole)
    (arg7 : Memref sig .tc .vmem S8x1 .f32) (harg7 : arg7.IsWhole)
    (arg8 : Memref sig .tc .vmem S8x32256 .f32) (harg8 : arg8.IsWhole) (arg9 : Memref sig .tc .vmem S8x128 .f32) (harg9 : arg9.IsWhole)
    (h1 : cond1 i = 1#1) (h2 : ¬ cond2 i = 1#1) (h3 : ¬ k0_cond3 i = 1#1)
    (d1 d2 d3 d4 d8 d9) (K : PUnit → sProp 𝕄) :
    iprop(owns (c : Thread nD τ) arg1 fullShare d1 ∗ owns (c : Thread nD τ) arg2 fullShare d2 ∗ owns (c : Thread nD τ) arg3 fullShare d3
        ∗ owns (c : Thread nD τ) arg4 fullShare d4
        ∗ owns (c : Thread nD τ) arg8 fullShare d8 ∗ owns (c : Thread nD τ) arg9 fullShare d9
        ∗ (iprop(owns (c : Thread nD τ) arg1 fullShare d1 ∗ owns (c : Thread nD τ) arg2 fullShare d2 ∗ owns (c : Thread nD τ) arg3 fullShare d3
        ∗ owns (c : Thread nD τ) arg4 fullShare d4
        ∗ owns (c : Thread nD τ) arg8 fullShare (rows i d1 d2 d3 d4 d8) ∗ owns (c : Thread nD τ) arg9 fullShare (first i d1 d2 d3 d4 d9)) -∗ K ⟨⟩))
      ⊢ wp frame (wpE (defs₀ (F := F)) Variants.none c none) Set.univ
          (cc0__rank_sampler_kernel i arg1 harg1 arg2 harg2 arg3 harg3 arg4 harg4 arg5 harg5 arg6 harg6 arg7 harg7 arg8 harg8 arg9 harg9) K := by
  simp only [cc0__rank_sampler_kernel_eq_skeleton]; unfold cc0__rank_sampler_kernel_skel
  unfold owns
  iintro ⟨⟨%f1, %e1, H1⟩, ⟨%f2, %e2, H2⟩, ⟨%f3, %e3, H3⟩, ⟨%f4, %e4, H4⟩, ⟨%f8, %e8, H8⟩, ⟨%f9, %e9, H9⟩, Hk⟩
  subst e1; subst e2; subst e3; subst e4; subst e8; subst e9
  sl_exec (disch := first | exact h1 | exact h2 | exact h3)
  sl_step
  have w1 : View.readAt (Elt F) arg1.view (Rect.unit ![0, 0] S8x4096.size inb_S8x4096_S8x4096_0_0).toLoadRect f1 = arg1.view.read (Elt F) f1 := View.readAt_full _ _ _
  have w2 : View.readAt (Elt F) arg2.view (Rect.unit ![0, 0] S768x4096.size inb_S768x4096_S768x4096_0_0).toLoadRect f2 = arg2.view.read (Elt F) f2 := View.readAt_full _ _ _
  have w3 : View.readAt (Elt F) arg3.view (Rect.unit ![0, 0] S1x768.size inb_S1x768_S1x768_0_0).toLoadRect f3 = arg3.view.read (Elt F) f3 := View.readAt_full _ _ _
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H8]
  · iexists _; isplitr; swap; · iexact H8
    ipureintro
    rw [View.read_writes_cons_put _ _ _ _ _ rfl, View.writes_nil]
    rw [w1, w2, w3]
    rfl
  iexists _; isplitr; swap; · iexact H9
  ipureintro
  rw [View.read_writes_cons_put _ _ _ _ _ rfl, View.read_writes_cons_put _ _ _ _ _ rfl, View.read_writes_cons_put _ _ _ _ _ rfl, View.writes_nil]
  unfold run_first.sl.r_1 run_first.sl.r_2 run_first.sl.r_3
  rw [w1, w2, w3]
  rfl

theorem run_mid (c : Dev nD) (i : grid0.Coords)
    (arg1 : Memref sig .tc .vmem S8x4096 .f32) (harg1 : arg1.IsWhole) (arg2 : Memref sig .tc .vmem S768x4096 .f32) (harg2 : arg2.IsWhole)
    (arg3 : Memref sig .tc .vmem S1x768 .f32) (harg3 : arg3.IsWhole) (arg4 : Memref sig .tc .vmem S8x128 .f32) (harg4 : arg4.IsWhole)
    (arg5 : Memref sig .tc .vmem S8x1 .i32) (harg5 : arg5.IsWhole) (arg6 : Memref sig .tc .vmem S8x32004 .f32) (harg6 : arg6.IsWhole)
    (arg7 : Memref sig .tc .vmem S8x1 .f32) (harg7 : arg7.IsWhole)
    (arg8 : Memref sig .tc .vmem S8x32256 .f32) (harg8 : arg8.IsWhole) (arg9 : Memref sig .tc .vmem S8x128 .f32) (harg9 : arg9.IsWhole)
    (h1 : ¬ cond1 i = 1#1) (h2 : cond2 i = 1#1) (h3 : ¬ k0_cond3 i = 1#1)
    (d1 d2 d3 d4 d8 d9) (K : PUnit → sProp 𝕄) :
    iprop(owns (c : Thread nD τ) arg1 fullShare d1 ∗ owns (c : Thread nD τ) arg2 fullShare d2 ∗ owns (c : Thread nD τ) arg3 fullShare d3
        ∗ owns (c : Thread nD τ) arg4 fullShare d4
        ∗ owns (c : Thread nD τ) arg8 fullShare d8 ∗ owns (c : Thread nD τ) arg9 fullShare d9
        ∗ (iprop(owns (c : Thread nD τ) arg1 fullShare d1 ∗ owns (c : Thread nD τ) arg2 fullShare d2 ∗ owns (c : Thread nD τ) arg3 fullShare d3
        ∗ owns (c : Thread nD τ) arg4 fullShare d4
        ∗ owns (c : Thread nD τ) arg8 fullShare (rows i d1 d2 d3 d4 d8) ∗ owns (c : Thread nD τ) arg9 fullShare (merge i d1 d2 d3 d4 d9)) -∗ K ⟨⟩))
      ⊢ wp frame (wpE (defs₀ (F := F)) Variants.none c none) Set.univ
          (cc0__rank_sampler_kernel i arg1 harg1 arg2 harg2 arg3 harg3 arg4 harg4 arg5 harg5 arg6 harg6 arg7 harg7 arg8 harg8 arg9 harg9) K := by
  simp only [cc0__rank_sampler_kernel_eq_skeleton]; unfold cc0__rank_sampler_kernel_skel
  unfold owns
  iintro ⟨⟨%f1, %e1, H1⟩, ⟨%f2, %e2, H2⟩, ⟨%f3, %e3, H3⟩, ⟨%f4, %e4, H4⟩, ⟨%f8, %e8, H8⟩, ⟨%f9, %e9, H9⟩, Hk⟩
  subst e1; subst e2; subst e3; subst e4; subst e8; subst e9
  sl_exec (disch := first | exact h1 | exact h2 | exact h3)
  sl_step
  have w1 : View.readAt (Elt F) arg1.view (Rect.unit ![0, 0] S8x4096.size inb_S8x4096_S8x4096_0_0).toLoadRect f1 = arg1.view.read (Elt F) f1 := View.readAt_full _ _ _
  have w2 : View.readAt (Elt F) arg2.view (Rect.unit ![0, 0] S768x4096.size inb_S768x4096_S768x4096_0_0).toLoadRect f2 = arg2.view.read (Elt F) f2 := View.readAt_full _ _ _
  have w3 : View.readAt (Elt F) arg3.view (Rect.unit ![0, 0] S1x768.size inb_S1x768_S1x768_0_0).toLoadRect f3 = arg3.view.read (Elt F) f3 := View.readAt_full _ _ _
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H8]
  · iexists _; isplitr; swap; · iexact H8
    ipureintro
    rw [View.read_writes_cons_put _ _ _ _ _ rfl, View.writes_nil]
    rw [w1, w2, w3]
    rfl
  iexists _; isplitr; swap; · iexact H9
  ipureintro
  rw [View.read_writes_cons_put _ _ _ _ _ rfl, View.read_writes_cons_put _ _ _ _ _ rfl, View.read_writes_cons_put _ _ _ _ _ rfl, View.writes_nil]
  unfold run_mid.sl.r_1 run_mid.sl.r_2 run_mid.sl.r_3
  rw [w1, w2, w3]
  rfl

theorem run_last (c : Dev nD) (i : grid0.Coords)
    (arg1 : Memref sig .tc .vmem S8x4096 .f32) (harg1 : arg1.IsWhole) (arg2 : Memref sig .tc .vmem S768x4096 .f32) (harg2 : arg2.IsWhole)
    (arg3 : Memref sig .tc .vmem S1x768 .f32) (harg3 : arg3.IsWhole) (arg4 : Memref sig .tc .vmem S8x128 .f32) (harg4 : arg4.IsWhole)
    (arg5 : Memref sig .tc .vmem S8x1 .i32) (harg5 : arg5.IsWhole) (arg6 : Memref sig .tc .vmem S8x32004 .f32) (harg6 : arg6.IsWhole)
    (arg7 : Memref sig .tc .vmem S8x1 .f32) (harg7 : arg7.IsWhole)
    (arg8 : Memref sig .tc .vmem S8x32256 .f32) (harg8 : arg8.IsWhole) (arg9 : Memref sig .tc .vmem S8x128 .f32) (harg9 : arg9.IsWhole)
    (h1 : ¬ cond1 i = 1#1) (h2 : cond2 i = 1#1) (h3 : k0_cond3 i = 1#1)
    (d1 d2 d3 d4 d8 d9) (K : PUnit → sProp 𝕄) :
    iprop(owns (c : Thread nD τ) arg1 fullShare d1 ∗ owns (c : Thread nD τ) arg2 fullShare d2 ∗ owns (c : Thread nD τ) arg3 fullShare d3
        ∗ owns (c : Thread nD τ) arg4 fullShare d4
        ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare d8 ∗ owns (c : Thread nD τ) arg9 fullShare d9
        ∗ (iprop(owns (c : Thread nD τ) arg1 fullShare d1 ∗ owns (c : Thread nD τ) arg2 fullShare d2 ∗ owns (c : Thread nD τ) arg3 fullShare d3
        ∗ owns (c : Thread nD τ) arg4 fullShare d4
        ∗ owns (c : Thread nD τ) arg5 fullShare (outTok (col (merge i d1 d2 d3 d4 d9) 2 (by omega)))
        ∗ owns (c : Thread nD τ) arg6 fullShare (outLp d4 (rows i d1 d2 d3 d4 d8) (col (merge i d1 d2 d3 d4 d9) 0 (by omega)) (col (merge i d1 d2 d3 d4 d9) 1 (by omega)))
        ∗ owns (c : Thread nD τ) arg7 fullShare (outRank d1 d2 d3)
        ∗ owns (c : Thread nD τ) arg8 fullShare (rows i d1 d2 d3 d4 d8) ∗ owns (c : Thread nD τ) arg9 fullShare (merge i d1 d2 d3 d4 d9)) -∗ K ⟨⟩))
      ⊢ wp frame (wpE (defs₀ (F := F)) Variants.none c none) Set.univ
          (cc0__rank_sampler_kernel i arg1 harg1 arg2 harg2 arg3 harg3 arg4 harg4 arg5 harg5 arg6 harg6 arg7 harg7 arg8 harg8 arg9 harg9) K := by
  simp only [cc0__rank_sampler_kernel_eq_skeleton]; unfold cc0__rank_sampler_kernel_skel
  unfold owns
  iintro ⟨⟨%f1, %e1, H1⟩, ⟨%f2, %e2, H2⟩, ⟨%f3, %e3, H3⟩, ⟨%f4, %e4, H4⟩, ⟨%d5, %f5, -, H5⟩, ⟨%d6, %f6, -, H6⟩, ⟨%d7, %f7, -, H7⟩, ⟨%f8, %e8, H8⟩, ⟨%f9, %e9, H9⟩, Hk⟩
  subst e1; subst e2; subst e3; subst e4; subst e8; subst e9
  sl_exec (disch := first | exact h1 | exact h2 | exact h3)
  sl_step
  have w1 : View.readAt (Elt F) arg1.view (Rect.unit ![0, 0] S8x4096.size inb_S8x4096_S8x4096_0_0).toLoadRect f1 = arg1.view.read (Elt F) f1 := View.readAt_full _ _ _
  have w2 : View.readAt (Elt F) arg2.view (Rect.unit ![0, 0] S768x4096.size inb_S768x4096_S768x4096_0_0).toLoadRect f2 = arg2.view.read (Elt F) f2 := View.readAt_full _ _ _
  have w3 : View.readAt (Elt F) arg3.view (Rect.unit ![0, 0] S1x768.size inb_S1x768_S1x768_0_0).toLoadRect f3 = arg3.view.read (Elt F) f3 := View.readAt_full _ _ _
  have w9 : ∀ f : BufTy.Contents (Elt F) arg9.view.ty, arg9.view.read (Elt F) (arg9.view.writes (Elt F) f (run_last.sl.H9_3 c i arg1 arg2 arg3 arg4 arg9 f1 f2 f3 f4 f9)) =
      put3 (arg9.view.read (Elt F) f) (k0_pay5 (tileM i (arg1.view.read (Elt F) f1) (arg2.view.read (Elt F) f2) (arg3.view.read (Elt F) f3) (arg4.view.read (Elt F) f4)) (col (arg9.view.read (Elt F) f9) 0 (by omega)))
        (k0_pay6 (tileM i (arg1.view.read (Elt F) f1) (arg2.view.read (Elt F) f2) (arg3.view.read (Elt F) f3) (arg4.view.read (Elt F) f4))
          (tileZ i (arg1.view.read (Elt F) f1) (arg2.view.read (Elt F) f2) (arg3.view.read (Elt F) f3) (arg4.view.read (Elt F) f4)) (col (arg9.view.read (Elt F) f9) 0 (by omega)) (col (arg9.view.read (Elt F) f9) 1 (by omega)))
        (k0_pay7 (tileM i (arg1.view.read (Elt F) f1) (arg2.view.read (Elt F) f2) (arg3.view.read (Elt F) f3) (arg4.view.read (Elt F) f4))
          (tileI i (arg1.view.read (Elt F) f1) (arg2.view.read (Elt F) f2) (arg3.view.read (Elt F) f3) (arg4.view.read (Elt F) f4)) (col (arg9.view.read (Elt F) f9) 0 (by omega)) (col (arg9.view.read (Elt F) f9) 2 (by omega))) := by
    intro f
    unfold run_last.sl.H9_3
    rw [View.read_writes_cons_put _ _ _ _ _ rfl, View.read_writes_cons_put _ _ _ _ _ rfl, View.read_writes_cons_put _ _ _ _ _ rfl, View.writes_nil]
    unfold run_last.sl.r_1 run_last.sl.r_2 run_last.sl.r_3
    rw [w1, w2, w3]
    rfl
  have k0 : arg9.view.readCov (run_last.sl.H9_3 c i arg1 arg2 arg3 arg4 arg9 f1 f2 f3 f4 f9) (Rect.unit (s := S8x128) ![0, 0] S8x1.size inb_S8x128_S8x1_0_0).toLoadRect
      = col (merge i (arg1.view.read (Elt F) f1) (arg2.view.read (Elt F) f2) (arg3.view.read (Elt F) f3) (arg4.view.read (Elt F) f4) (arg9.view.read (Elt F) f9)) 0 (by omega) := by
    have e := congrArg (fun x => col x 0 (by omega)) (w9 arg9.view.junk)
    exact e.trans ((col_put3_0 _ _ _ _ _).trans (col_put3_0 _ _ _ _ _).symm)
  have k1 : arg9.view.readCov (run_last.sl.H9_3 c i arg1 arg2 arg3 arg4 arg9 f1 f2 f3 f4 f9) (Rect.unit (s := S8x128) ![0, 1] S8x1.size inb_S8x128_S8x1_0_1).toLoadRect
      = col (merge i (arg1.view.read (Elt F) f1) (arg2.view.read (Elt F) f2) (arg3.view.read (Elt F) f3) (arg4.view.read (Elt F) f4) (arg9.view.read (Elt F) f9)) 1 (by omega) := by
    have e := congrArg (fun x => col x 1 (by omega)) (w9 arg9.view.junk)
    exact e.trans ((col_put3_1 _ _ _ _ _).trans (col_put3_1 _ _ _ _ _).symm)
  have k2 : arg9.view.readCov (run_last.sl.H9_3 c i arg1 arg2 arg3 arg4 arg9 f1 f2 f3 f4 f9) (Rect.unit (s := S8x128) ![0, 2] S8x1.size inb_S8x128_S8x1_0_2).toLoadRect
      = col (merge i (arg1.view.read (Elt F) f1) (arg2.view.read (Elt F) f2) (arg3.view.read (Elt F) f3) (arg4.view.read (Elt F) f4) (arg9.view.read (Elt F) f9)) 2 (by omega) := by
    have e := congrArg (fun x => col x 2 (by omega)) (w9 arg9.view.junk)
    exact e.trans ((col_put3_2 _ _ _ _ _).trans (col_put3_2 _ _ _ _ _).symm)
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro
    unfold run_last.sl.H5_1
    rw [View.read_writes_full]
    unfold run_last.sl.v53
    rw [k2]
    rfl
  isplitl [H6]
  · iexists _; isplitr; swap; · iexact H6
    ipureintro
    rw [View.read_writes_full]
    have w8 : arg8.view.read (Elt F) (arg8.view.writes (Elt F) f8
        [⟨Rect.unit (k0_off1 i) S8x768.size (k0_off1_inb i),
            k0_pay832 i (View.readAt (Elt F) arg4.view (Rect.unit (s := S8x128) ![0, 0] S8x1.size inb_S8x128_S8x1_0_0).toLoadRect f4)
              (View.readAt (Elt F) arg1.view (Rect.unit ![0, 0] S8x4096.size inb_S8x4096_S8x4096_0_0).toLoadRect f1)
              (View.readAt (Elt F) arg2.view (Rect.unit ![0, 0] S768x4096.size inb_S768x4096_S768x4096_0_0).toLoadRect f2)
              (View.readAt (Elt F) arg3.view (Rect.unit ![0, 0] S1x768.size inb_S1x768_S1x768_0_0).toLoadRect f3)⟩])
        = rows i (arg1.view.read (Elt F) f1) (arg2.view.read (Elt F) f2) (arg3.view.read (Elt F) f3) (arg4.view.read (Elt F) f4) (arg8.view.read (Elt F) f8) := by
      rw [View.read_writes_cons_put _ _ _ _ _ rfl, View.writes_nil, w1, w2, w3]
      rfl
    have w99 := fun (y : BufTy.Contents (Elt F) arg8.view.ty) => View.readAt_full arg8.view y inb_S8x32256_S8x32256_0_0
    unfold run_last.sl.v99 run_last.sl.r_4 run_last.sl.r_5 run_last.sl.r_6 run_last.sl.v58 run_last.sl.v52 run_last.sl.v51
    rw [show (iota .tc S8x128 32 [1] iota_S8x128_d1_w32 : IVec S8x128 32) = cols from rfl, st_eq _ _ _ _ _ _ _ _ _ _ _ _ _ _ _ _ _ _ _ _ _ _ _ _ _ _ le_rfl, k0, k1, chunk_eq, w8, w99, w8]
    rfl
  isplitl [H7]
  · iexists _; isplitr; swap; · iexact H7
    ipureintro
    unfold run_last.sl.H7_1
    rw [View.read_writes_full]
    unfold run_last.sl.r
    rw [w1, w2, w3]
    rfl
  isplitl [H8]
  · iexists _; isplitr; swap; · iexact H8
    ipureintro
    rw [View.read_writes_cons_put _ _ _ _ _ rfl, View.writes_nil]
    rw [w1, w2, w3]
    rfl
  iexists _; isplitr; swap; · iexact H9
  ipureintro
  exact w9 f9

end Cert.KernelIdeal.Hand
-- ==== Proof.Ideal.Track.lean ====
/-
  The idealized kernel's run with its results named. Between the points the row buffer holds the tiles met so far and
  the running buffer the maximum, the sum and the index over them; the last point leaves the three results.
-/
module

public import proofs.«01_k».proof.Proof.Ideal.Points
public import Idealize.ShloMosaic.Lib.Pipeline.FrameSuffix
public import Idealize.ShloMosaic.Lib.Pipeline.ValueKit

@[expose] public section

noncomputable section

namespace Cert.KernelIdeal.Hand.Track

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- Point `n`, counted round the grid. -/
def pt (n : ℕ) : Fin cfg0.N := ⟨n % 42, Nat.mod_lt _ (by decide)⟩

/-- The tile, the row maxima, places and sums of point `n`. -/
def T (c : Dev nD) (n : ℕ) : FVec F S8x768 .f32 := tileX (grid0.coords (pt n)) (iblk m c 0 (pt n)) (iblk m c 1 (pt n)) (iblk m c 2 (pt n)) (iblk m c 3 (pt n))
def TM (c : Dev nD) (n : ℕ) : FVec F S8x1 .f32 := tileM (grid0.coords (pt n)) (iblk m c 0 (pt n)) (iblk m c 1 (pt n)) (iblk m c 2 (pt n)) (iblk m c 3 (pt n))
def TI (c : Dev nD) (n : ℕ) : FVec F S8x1 .f32 := tileI (grid0.coords (pt n)) (iblk m c 0 (pt n)) (iblk m c 1 (pt n)) (iblk m c 2 (pt n)) (iblk m c 3 (pt n))
def TZ (c : Dev nD) (n : ℕ) : FVec F S8x1 .f32 := tileZ (grid0.coords (pt n)) (iblk m c 0 (pt n)) (iblk m c 1 (pt n)) (iblk m c 2 (pt n)) (iblk m c 3 (pt n))

/-- The running maximum, sum and index after point `n`. -/
def accM (c : Dev nD) : ℕ → FVec F S8x1 .f32
  | 0 => k0_pay1 (TM m c 0)
  | n + 1 => k0_pay5 (TM m c (n + 1)) (accM c n)
def accZ (c : Dev nD) : ℕ → FVec F S8x1 .f32
  | 0 => k0_pay2 (TZ m c 0)
  | n + 1 => k0_pay6 (TM m c (n + 1)) (TZ m c (n + 1)) (accM m c n) (accZ c n)
def accI (c : Dev nD) : ℕ → FVec F S8x1 .f32
  | 0 => k0_pay3 (TI m c 0)
  | n + 1 => k0_pay7 (TM m c (n + 1)) (TI m c (n + 1)) (accM m c n) (accI c n)

/-- A column's place within its tile. -/
def loc (x : S8x32256.Idx) : S8x768.Idx := fun
  | 0 => ⟨(x 0).val, (x 0).isLt⟩
  | 1 => ⟨(x 1).val % 768, Nat.mod_lt _ (by decide)⟩

/-- All the rows, tile by tile. -/
def rowsV (c : Dev nD) : Vec F S8x32256 .f32 := fun x => T m c ((x 1).val / 768) (loc x)

/-- What the two scratch buffers hold before point `n`. -/
def Inv (c : Dev nD) (n : ℕ) (d8 : Vec F S8x32256 .f32) (d9 : Vec F S8x128 .f32) : Prop :=
  (∀ x, (x 1).val < 768 * n → d8 x = rowsV m c x)
    ∧ ∀ k, n = k + 1 → col d9 0 (by omega) = accM m c k ∧ col d9 1 (by omega) = accZ m c k ∧ col d9 2 (by omega) = accI m c k

theorem pt_val (t : Fin cfg0.N) : pt t.val = t := Fin.ext (Nat.mod_eq_of_lt t.isLt)

theorem off_at : ∀ t : Fin cfg0.N, k0_off1 (grid0.coords t) 1 = 768 * t.val := by
  decide +kernel

/-- The row buffer after a point's store. -/
theorem rows_step (c : Dev nD) (t : Fin cfg0.N) (d8 : Vec F S8x32256 .f32) (h : ∀ x, (x 1).val < 768 * t.val → d8 x = rowsV m c x) :
    ∀ x, (x 1).val < 768 * (t.val + 1) → rows (grid0.coords t) (iblk m c 0 t) (iblk m c 1 t) (iblk m c 2 t) (iblk m c 3 t) d8 x = rowsV m c x := by
  intro x hx
  have ho : k0_off1 (grid0.coords t) = ![0, 768 * t.val] := by
    have := off_at t
    funext a
    fin_cases a
    · rfl
    · exact this
  unfold rows
  rw [ho]
  unfold VecWindow.put
  by_cases hc : 768 * t.val ≤ (x 1).val
  · have hx0 := (x 0).isLt
    rw [dif_pos (by
      intro a
      fin_cases a
      · exact ⟨Nat.zero_le _, by show (x 0).val < 0 + 8; have : (x 0).val < 8 := hx0; omega⟩
      · exact ⟨hc, by show (x 1).val < 768 * t.val + 768; omega⟩)]
    unfold rowsV T
    have hd : (x 1).val / 768 = t.val := by omega
    rw [hd, pt_val]
    refine congrArg _ (funext fun a => Fin.ext ?_)
    rw [Rect.unitLocal_val]
    fin_cases a
    · exact Nat.sub_zero _
    · show (x 1).val - 768 * t.val = (x 1).val % 768
      omega
  · rw [dif_neg (fun hh => hc (hh 1).1)]
    exact h x (by omega)

theorem inv_first (c : Dev nD) (t : Fin cfg0.N) (ht : t.val = 0) (d8 : Vec F S8x32256 .f32) (d9 : Vec F S8x128 .f32) (h : Inv m c t.val d8 d9) :
    Inv m c (t.val + 1) (rows (grid0.coords t) (iblk m c 0 t) (iblk m c 1 t) (iblk m c 2 t) (iblk m c 3 t) d8)
      (first (grid0.coords t) (iblk m c 0 t) (iblk m c 1 t) (iblk m c 2 t) (iblk m c 3 t) d9) := by
  refine ⟨rows_step m c t d8 h.1, fun k hk => ?_⟩
  obtain rfl : k = 0 := by omega
  have e : t = pt 0 := by rw [← pt_val t, ht]
  subst e
  exact ⟨col_put3_0 _ _ _ _ _, col_put3_1 _ _ _ _ _, col_put3_2 _ _ _ _ _⟩

theorem inv_merge (c : Dev nD) (t : Fin cfg0.N) (ht : t.val ≠ 0) (d8 : Vec F S8x32256 .f32) (d9 : Vec F S8x128 .f32) (h : Inv m c t.val d8 d9) :
    Inv m c (t.val + 1) (rows (grid0.coords t) (iblk m c 0 t) (iblk m c 1 t) (iblk m c 2 t) (iblk m c 3 t) d8)
      (merge (grid0.coords t) (iblk m c 0 t) (iblk m c 1 t) (iblk m c 2 t) (iblk m c 3 t) d9) := by
  refine ⟨rows_step m c t d8 h.1, fun k hk => ?_⟩
  obtain ⟨j, rfl⟩ : ∃ j, k = j + 1 := ⟨k - 1, by omega⟩
  have e : t = pt (j + 1) := by rw [← pt_val t]; congr 1; omega
  obtain ⟨h0, h1, h2⟩ := h.2 j (by omega)
  unfold merge accM accZ accI
  rw [col_put3_0, col_put3_1, col_put3_2, h0, h1, h2, e]
  exact ⟨rfl, rfl, rfl⟩

/-- The results the last point leaves. -/
def tok (c : Dev nD) : IVec S8x1 32 := outTok (accI m c 41)
def lp (c : Dev nD) : FVec F S8x32004 .f32 := outLp (iblk m c 3 (pt 41)) (rowsV m c) (accM m c 41) (accZ m c 41)
def rank (c : Dev nD) : FVec F S8x1 .f32 := outRank (iblk m c 0 (pt 41)) (iblk m c 1 (pt 41)) (iblk m c 2 (pt 41))

/-- The proof data: the arrays as the region finds them, the inputs left in place, the results at the last point. -/
def dats (_ : Fin 1) (c : Dev nD) : Dat τ (Elt F) Unit ℕ (UR sig nD τ) ℕ cfg0 c where
  A w := V m c (Pipeline.arrRef spec0 w)
  after := fun
    | 0 => fun t => iblk m c 0 t
    | 1 => fun t => iblk m c 1 t
    | 2 => fun t => iblk m c 2 t
    | 3 => fun t => iblk m c 3 t
    | 4 => fun _ => tok m c
    | 5 => fun _ => lp m c
    | 6 => fun _ => rank m c
  Φ t := iprop((∃ (d8 : Vec F S8x32256 .f32) (d9 : Vec F S8x128 .f32), ⌜Inv m c t.val d8 d9⌝ ∗ owns (c : Thread nD τ) (Memref.whole cc0_scratch0) fullShare d8
    ∗ owns (c : Thread nD τ) (Memref.whole cc0_scratch1) fullShare d9) ∗ ∃ r, prngReg c r)
  q _ := fullShare
  owed _ := 0

theorem A_eq (c : Dev nD) (w : Fin cfg0.W) : (dats m 0 c).A w = V m c (Pipeline.arrRef spec0 w) := by dsimp only [dats]

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t
    ∗ (dats m 0 c).leavesExact 5 t
    ∗ (dats m 0 c).leavesExact 6 t)

theorem cond_at : ∀ t : Fin cfg0.N, (cond1 (grid0.coords t) = 1#1 ↔ t.val = 0) ∧ (k0_cond3 (grid0.coords t) = 1#1 ↔ t.val % 42 = 41) := by
  decide +kernel

theorem idle_out (c : Dev nD) (t : Fin cfg0.N) (h : ¬ k0_cond3 (grid0.coords t) = 1#1) :
    (dats m 0 c).leavesExact 4 t = iprop(∃ d, owns (c : Thread nD τ) (st0_4 t) fullShare ((dats m 0 c).before 4 t d))
    ∧ (dats m 0 c).leavesExact 5 t = iprop(∃ d, owns (c : Thread nD τ) (st0_5 t) fullShare ((dats m 0 c).before 5 t d))
    ∧ (dats m 0 c).leavesExact 6 t = iprop(∃ d, owns (c : Thread nD τ) (st0_6 t) fullShare ((dats m 0 c).before 6 t d)) := by
  have hi : (!(k0_cond3 (grid0.coords t) == 1#1)) = true := by simpa using h
  have hn : t.val % 42 ≠ 41 := fun hh => h ((cond_at t).2.2 hh)
  refine ⟨(dats m 0 c).leavesExact_idle 4 t hi ?_, (dats m 0 c).leavesExact_idle 5 t hi ?_, (dats m 0 c).leavesExact_idle 6 t hi ?_⟩
  · exact Bool.eq_false_iff.2 fun hf => hn ((flush0_4 t).1 hf)
  · exact Bool.eq_false_iff.2 fun hf => hn ((flush0_5 t).1 hf)
  · exact Bool.eq_false_iff.2 fun hf => hn ((flush0_6 t).1 hf)

theorem live_out (c : Dev nD) (t : Fin cfg0.N) (h : k0_cond3 (grid0.coords t) = 1#1) :
    (dats m 0 c).leavesExact 4 t = owns (c : Thread nD τ) (st0_4 t) fullShare (tok m c)
    ∧ (dats m 0 c).leavesExact 5 t = owns (c : Thread nD τ) (st0_5 t) fullShare (lp m c)
    ∧ (dats m 0 c).leavesExact 6 t = owns (c : Thread nD τ) (st0_6 t) fullShare (rank m c) := by
  have hi : (!(k0_cond3 (grid0.coords t) == 1#1)) = false := by simp [h]
  refine ⟨?_, ?_, ?_⟩
  · unfold Dat.leavesExact
    rw [show cfg0.idle 4 (cfg0.grid.coords t) = false from hi]; rfl
  · unfold Dat.leavesExact
    rw [show cfg0.idle 5 (cfg0.grid.coords t) = false from hi]; rfl
  · unfold Dat.leavesExact
    rw [show cfg0.idle 6 (cfg0.grid.coords t) = false from hi]; rfl

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]

/-- What the run keeps between the points. -/
def PhiS (c : Dev nD) (n : ℕ) : sProp 𝕄 :=
  iprop((∃ (d8 : Vec F S8x32256 .f32) (d9 : Vec F S8x128 .f32), ⌜Inv m c n d8 d9⌝ ∗ owns (c : Thread nD τ) (Memref.whole cc0_scratch0) fullShare d8
    ∗ owns (c : Thread nD τ) (Memref.whole cc0_scratch1) fullShare d9) ∗ ∃ r, prngReg c r)

theorem Phi_eq (c : Dev nD) (t : Fin (cfg0.N + 1)) : (dats m 0 c).Φ t = PhiS m c t.val := by dsimp only [dats]; rfl

/-- At the last point the two buffers are what the results are computed from. -/
theorem last_all (c : Dev nD) (t : Fin cfg0.N) (ht : t.val = 41) (d8 : Vec F S8x32256 .f32) (d9 : Vec F S8x128 .f32) (h : Inv m c t.val d8 d9) :
    rows (grid0.coords t) (iblk m c 0 t) (iblk m c 1 t) (iblk m c 2 t) (iblk m c 3 t) d8 = rowsV m c
    ∧ col (merge (grid0.coords t) (iblk m c 0 t) (iblk m c 1 t) (iblk m c 2 t) (iblk m c 3 t) d9) 0 (by omega) = accM m c 41
    ∧ col (merge (grid0.coords t) (iblk m c 0 t) (iblk m c 1 t) (iblk m c 2 t) (iblk m c 3 t) d9) 1 (by omega) = accZ m c 41
    ∧ col (merge (grid0.coords t) (iblk m c 0 t) (iblk m c 1 t) (iblk m c 2 t) (iblk m c 3 t) d9) 2 (by omega) = accI m c 41 := by
  have h' := inv_merge m c t (by omega) d8 d9 h
  refine ⟨funext fun x => h'.1 x ?_, h'.2 41 (by omega)⟩
  have hx : (x 1).val < 32256 := (x 1).isLt
  omega

theorem last_tok (c : Dev nD) (t : Fin cfg0.N) (ht : t.val = 41) (d8 : Vec F S8x32256 .f32) (d9 : Vec F S8x128 .f32) (h : Inv m c t.val d8 d9) :
    outTok (col (merge (grid0.coords t) (iblk m c 0 t) (iblk m c 1 t) (iblk m c 2 t) (iblk m c 3 t) d9) 2 (by omega)) = tok m c := by
  rw [(last_all m c t ht d8 d9 h).2.2.2]; rfl

theorem last_lp (c : Dev nD) (t : Fin cfg0.N) (ht : t.val = 41) (d8 : Vec F S8x32256 .f32) (d9 : Vec F S8x128 .f32) (h : Inv m c t.val d8 d9) :
    outLp (iblk m c 3 t) (rows (grid0.coords t) (iblk m c 0 t) (iblk m c 1 t) (iblk m c 2 t) (iblk m c 3 t) d8)
      (col (merge (grid0.coords t) (iblk m c 0 t) (iblk m c 1 t) (iblk m c 2 t) (iblk m c 3 t) d9) 0 (by omega))
      (col (merge (grid0.coords t) (iblk m c 0 t) (iblk m c 1 t) (iblk m c 2 t) (iblk m c 3 t) d9) 1 (by omega)) = lp m c := by
  obtain ⟨h0, h1, h2, -⟩ := last_all m c t ht d8 d9 h
  have e : t = pt 41 := by rw [← pt_val t, ht]
  rw [h0, h1, h2, e]; rfl

theorem last_rank (c : Dev nD) (t : Fin cfg0.N) (ht : t.val = 41) : outRank (iblk m c 0 t) (iblk m c 1 t) (iblk m c 2 t) = rank m c := by
  have e : t = pt 41 := by rw [← pt_val t, ht]
  rw [e]; rfl

/-- The body at every point. -/
theorem sound_body (c : Dev nD) (t : Fin cfg0.N) :
    bodyPre m c t ⊢ wp frame (wpE (defs₀ (F := F)) Variants.none c none) Set.univ (bodyAt0 t) (fun _ => bodyPost m c t) := by
  have hn : t.val < 42 := t.isLt
  unfold bodyPre bodyPost bodyAt0
  rw [show (dats m 0 c).owesAt () t.succ = (dats m 0 c).owesAt () t.castSucc from rfl, Phi_eq, Phi_eq, after_0, after_1, after_2, after_3]
  simp only [before0_0_of m (dats m 0 c) (A_eq m c 0) (after_0 m c), before0_1_of m (dats m 0 c) (A_eq m c 1) (after_1 m c),
    before0_2_of m (dats m 0 c) (A_eq m c 2) (after_2 m c), before0_3_of m (dats m 0 c) (A_eq m c 3) (after_3 m c)]
  unfold PhiS
  iintro ⟨⟨⟨%d8, %d9, %hI, H8, H9⟩, Hg⟩, HO, ⟨%d0, H0⟩, ⟨%d1, H1⟩, ⟨%d2, H2⟩, ⟨%d3, H3⟩, H4, H5, H6⟩
  rcases cases_point (grid0.coords t) with ⟨h1, h2, h3⟩ | ⟨h1, h2, h3⟩ | ⟨h1, h2, h3⟩
  · obtain ⟨q4, q5, q6⟩ := idle_out m c t h3
    rw [q4, q5, q6]
    iapply (run_first c (grid0.coords t) _ _ _ _ _ _ _ _ _ _ _ _ _ _ _ _ _ _ h1 h2 h3 (iblk m c 0 t) (iblk m c 1 t) (iblk m c 2 t) (iblk m c 3 t) d8 d9 _)
    isplitl [H0]; · iexact H0
    isplitl [H1]; · iexact H1
    isplitl [H2]; · iexact H2
    isplitl [H3]; · iexact H3
    isplitl [H8]; · iexact H8
    isplitl [H9]; · iexact H9
    iintro ⟨H0, H1, H2, H3, H8, H9⟩
    isplitl [H8 H9 Hg]
    · isplitl [H8 H9]
      · iexists _, _
        isplitr; swap
        · isplitl [H8]; · iexact H8
          iexact H9
        ipureintro
        exact inv_first m c t ((cond_at t).1.1 h1) d8 d9 hI
      iexact Hg
    isplitl [HO]; · iexact HO
    isplitl [H0]; · iexact H0
    isplitl [H1]; · iexact H1
    isplitl [H2]; · iexact H2
    isplitl [H3]; · iexact H3
    isplitl [H4]; · iexact H4
    isplitl [H5]; · iexact H5
    iexact H6
  · obtain ⟨q4, q5, q6⟩ := idle_out m c t h3
    rw [q4, q5, q6]
    iapply (run_mid c (grid0.coords t) _ _ _ _ _ _ _ _ _ _ _ _ _ _ _ _ _ _ h1 h2 h3 (iblk m c 0 t) (iblk m c 1 t) (iblk m c 2 t) (iblk m c 3 t) d8 d9 _)
    isplitl [H0]; · iexact H0
    isplitl [H1]; · iexact H1
    isplitl [H2]; · iexact H2
    isplitl [H3]; · iexact H3
    isplitl [H8]; · iexact H8
    isplitl [H9]; · iexact H9
    iintro ⟨H0, H1, H2, H3, H8, H9⟩
    isplitl [H8 H9 Hg]
    · isplitl [H8 H9]
      · iexists _, _
        isplitr; swap
        · isplitl [H8]; · iexact H8
          iexact H9
        ipureintro
        exact inv_merge m c t (fun h => h1 ((cond_at t).1.2 h)) d8 d9 hI
      iexact Hg
    isplitl [HO]; · iexact HO
    isplitl [H0]; · iexact H0
    isplitl [H1]; · iexact H1
    isplitl [H2]; · iexact H2
    isplitl [H3]; · iexact H3
    isplitl [H4]; · iexact H4
    isplitl [H5]; · iexact H5
    iexact H6
  · obtain ⟨q4, q5, q6⟩ := live_out m c t h3
    have ht : t.val = 41 := by have := (cond_at t).2.1 h3; omega
    rw [q4, q5, q6]
    iapply (run_last c (grid0.coords t) _ _ _ _ _ _ _ _ _ _ _ _ _ _ _ _ _ _ h1 h2 h3 (iblk m c 0 t) (iblk m c 1 t) (iblk m c 2 t) (iblk m c 3 t) d8 d9 _)
    isplitl [H0]; · iexact H0
    isplitl [H1]; · iexact H1
    isplitl [H2]; · iexact H2
    isplitl [H3]; · iexact H3
    isplitl [H4]; · icases H4 with ⟨%x4, H4⟩; iexists _; iexact H4
    isplitl [H5]; · icases H5 with ⟨%x5, H5⟩; iexists _; iexact H5
    isplitl [H6]; · icases H6 with ⟨%x6, H6⟩; iexists _; iexact H6
    isplitl [H8]; · iexact H8
    isplitl [H9]; · iexact H9
    iintro ⟨H0, H1, H2, H3, H4, H5, H6, H8, H9⟩
    isplitl [H8 H9 Hg]
    · isplitl [H8 H9]
      · iexists _, _
        isplitr; swap
        · isplitl [H8]; · iexact H8
          iexact H9
        ipureintro
        exact inv_merge m c t (fun h => h1 ((cond_at t).1.2 h)) d8 d9 hI
      iexact Hg
    isplitl [HO]; · iexact HO
    isplitl [H0]; · iexact H0
    isplitl [H1]; · iexact H1
    isplitl [H2]; · iexact H2
    isplitl [H3]; · iexact H3
    isplitl [H4]; · rw [← last_tok m c t ht d8 d9 hI]; iexact H4
    isplitl [H5]; · rw [← last_lp m c t ht d8 d9 hI]; iexact H5
    rw [← last_rank m c t ht]; iexact H6

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

/-- Both scratch buffers at some contents and the generator register at some state. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d))
          ∗ ∃ r, prngReg c r) := by
  unfold Pipeline.ΦA; rw [scopedRest0_eq]; simp only [owns_whole]; try rfl

theorem phi_in (c : Dev nD) : Pipeline.ΦA spec0 c ⊢ (dats m 0 c).Φ 0 := by
  rw [PhiA0_eq, Phi_eq]
  unfold PhiS
  iintro ⟨⟨⟨%d8, H8⟩, ⟨%d9, H9⟩⟩, Hg⟩
  isplitl [H8 H9]
  · iexists _, _
    isplitr; swap
    · isplitl [H8]; · iexact H8
      iexact H9
    ipureintro
    exact ⟨fun x hx => absurd hx (by simp), fun k hk => absurd hk (by simp)⟩
  iexact Hg

theorem phi_out (c : Dev nD) : (dats m 0 c).Φ (Fin.last cfg0.N) ⊢ Pipeline.ΦA spec0 c := by
  rw [PhiA0_eq, Phi_eq]
  unfold PhiS
  iintro ⟨⟨%d8, %d9, %hI, H8, H9⟩, Hg⟩
  isplitl [H8 H9]
  · isplitl [H8]
    · iexists _; iexact H8
    iexists _; iexact H9
  iexact Hg

set_option backward.isDefEq.respectTransparency.types false in
theorem run_main :
    θ_run defs (onTc (τ := τ) (main (F := F))) (s₀ m ρ)
      (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := phi_in m) (hout := phi_out m)
    (hQ' := fun _ h => h)

end Cert.KernelIdeal.Hand.Track
-- ==== Proof.Ideal.Results.lean ====
/-
  What the idealized kernel's run leaves in the three results, the arguments unchanged.
-/
module

public import proofs.«01_k».proof.Proof.Ideal.Track

@[expose] public section

noncomputable section

namespace Cert.KernelIdeal.Hand.Track

open Idealize Idealize.ShloMosaic Idealize.ShloMosaic.Pipeline Idealize.ShloMosaic.StableHlo
open Cert.KernelIdeal Cert.KernelIdeal.Gen Cert.KernelIdeal.Hand

variable {F : FTy → Type} [FloatOps F] [Named F] [∀ e, Nonempty (Elt F e)]
variable (m : (ℓ : Loc nD τ sig) → Buf (Elt F) ℓ) (ρ : Dev nD → PrngReg)

/-- The last point writes each result whole. -/
theorem final_tok (c : Dev nD) : (dats m 0 c).arrAt 4 (cfgs 0).N = tok m c := by
  refine (dats m 0 c).arrAt_eq_of_after_last 4 (pt 41) (by decide +kernel) _ fun j => ?_
  blk_simp
  dsimp only [dats]
theorem final_lp (c : Dev nD) : (dats m 0 c).arrAt 5 (cfgs 0).N = lp m c := by
  refine (dats m 0 c).arrAt_eq_of_after_last 5 (pt 41) (by decide +kernel) _ fun j => ?_
  blk_simp
  dsimp only [dats]
theorem final_rank (c : Dev nD) : (dats m 0 c).arrAt 6 (cfgs 0).N = rank m c := by
  refine (dats m 0 c).arrAt_eq_of_after_last 6 (pt 41) (by decide +kernel) _ fun j => ?_
  blk_simp
  dsimp only [dats]

/-- The two reshapes after the region. -/
theorem tail_v11 (X : Valuation τ sig (Elt F)) : StableHlo.after ([hostOps1 (F := F)].flatten) X (Proc.devRef .tc main_v11)
    = (shapeCast S8 (X (Proc.devRef .tc main_v10_0)) shapeCasts_S8x1_S8 : IVec S8 32) := by
  simp only [List.flatten_cons, List.flatten_nil, List.append_nil, hostOps1]
  after_results
  try rfl
theorem tail_v12 (X : Valuation τ sig (Elt F)) : StableHlo.after ([hostOps1 (F := F)].flatten) X (Proc.devRef .tc main_v12)
    = (shapeCast S8 (X (Proc.devRef .tc main_v10_2)) shapeCasts_S8x1_S8 : FVec F S8 .f32) := by
  simp only [List.flatten_cons, List.flatten_nil, List.append_nil, hostOps1]
  after_results
  try rfl

theorem run : θ_run defs (onTc (τ := τ) (main (F := F))) ⟨m, fun _ => 0, ρ⟩ (fun r => ∀ c : Dev nD,
      r.2.mem ((c.tc : Thread nD τ).loc main_v11) = (shapeCast S8 (tok m c) shapeCasts_S8x1_S8 : IVec S8 32)
      ∧ r.2.mem ((c.tc : Thread nD τ).loc main_v10_1) = lp m c
      ∧ r.2.mem ((c.tc : Thread nD τ).loc main_v12) = (shapeCast S8 (rank m c) shapeCasts_S8x1_S8 : FVec F S8 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (run_main m ρ)
  refine ⟨?_, ?_, ?_, ?_, ?_, ?_, ?_, ?_, ?_⟩
  · refine ((h.1 c).2 main_v11 (Pipeline.mem_restRefs_of main_v11 (by decide) (by decide))).trans ?_
    unfold Pipeline.afterTail₀
    rw [tail_v11]
    exact congrArg (fun v => shapeCast S8 v shapeCasts_S8x1_S8) ((Pipeline.withArrays_arr spec0 (by decide) c (V0 m c) (fun w => (dats m 0 c).arrAt w (cfgs 0).N) 4).trans (final_tok m c))
  · exact ((h.1 c).1 5).trans (final_lp m c)
  · refine ((h.1 c).2 main_v12 (Pipeline.mem_restRefs_of main_v12 (by decide) (by decide))).trans ?_
    unfold Pipeline.afterTail₀
    rw [tail_v12]
    exact congrArg (fun v => shapeCast S8 v shapeCasts_S8x1_S8) ((Pipeline.withArrays_arr spec0 (by decide) c (V0 m c) (fun w => (dats m 0 c).arrAt w (cfgs 0).N) 6).trans (final_rank m c))
  · exact (((h.1 c).1 1).trans ((dats m 0 c).arrAt_in 1 rfl _)).trans (V_main_arg0 m c)
  · exact (((h.1 c).1 0).trans ((dats m 0 c).arrAt_in 0 rfl _)).trans (V_main_arg1 m c)
  · exact ((h.1 c).2 main_arg2 (Pipeline.mem_restRefs_of main_arg2 (by decide) (by decide))).trans (W_main_arg2 m (dats m) c)
  · exact ((h.1 c).2 main_arg3 (Pipeline.mem_restRefs_of main_arg3 (by decide) (by decide))).trans (W_main_arg3 m (dats m) c)
  · exact ((h.1 c).2 main_arg4 (Pipeline.mem_restRefs_of main_arg4 (by decide) (by decide))).trans (W_main_arg4 m (dats m) c)
  · exact ((h.1 c).2 main_arg5 (Pipeline.mem_restRefs_of main_arg5 (by decide) (by decide))).trans (W_main_arg5 m (dats m) c)

end Cert.KernelIdeal.Hand.Track
-- ==== Proof.Math.Run.lean ====
/-
  The running maximum, sum of exponentials and index of a set of columns, and how two disjoint sets' merge.
-/
module

public import Idealize.ShloMosaic.PureOps.Ideal
public import Mathlib.Data.EReal.Basic
public import Mathlib.Analysis.SpecialFunctions.Exp

@[expose] public section

noncomputable section

namespace Cert.Soft

open Idealize.ShloMosaic
open scoped BigOperators

/-- The exponential of a value less the real `μ`, zero at `⊥`. -/
def rexp (y : EReal) (μ : ℝ) : ℝ := if y = ⊥ then 0 else Real.exp (y.toReal - μ)

theorem rexp_nonneg (y : EReal) (μ : ℝ) : 0 ≤ rexp y μ := by
  unfold rexp; split_ifs
  · exact le_rfl
  · exact (Real.exp_pos _).le

theorem rexp_pos {y : EReal} (h : y ≠ ⊥) (μ : ℝ) : 0 < rexp y μ := by
  unfold rexp; rw [if_neg h]; exact Real.exp_pos _

theorem exp_real (a : ℝ) : Ideal.exp ((a : ℝ) : EReal) = ((Real.exp a : ℝ) : EReal) := rfl
theorem exp_bot : Ideal.exp ⊥ = 0 := rfl

theorem exp_sub {y : EReal} (h : y ≠ ⊤) (μ : ℝ) : Ideal.exp (y - ((μ : ℝ) : EReal)) = ((rexp y μ : ℝ) : EReal) := by
  unfold rexp
  induction y with
  | bot => rw [if_pos rfl, EReal.bot_sub, exp_bot]; rfl
  | coe a => rw [if_neg (EReal.coe_ne_bot a), EReal.toReal_coe, ← EReal.coe_sub, exp_real]
  | top => exact absurd rfl h

theorem rexp_shift (y : EReal) (μ ν : ℝ) : rexp y μ * Real.exp (μ - ν) = rexp y ν := by
  unfold rexp
  split_ifs
  · simp
  · rw [← Real.exp_add]; congr 1; ring

theorem coe_sum {ι : Type} (s : Finset ι) (f : ι → ℝ) : ((∑ i ∈ s, f i : ℝ) : EReal) = ∑ i ∈ s, ((f i : ℝ) : EReal) := by
  classical
  induction s using Finset.induction with
  | empty => simp
  | insert a s ha ih => rw [Finset.sum_insert ha, Finset.sum_insert ha, EReal.coe_add, ih]

/-- `M`, `Z` and `I` are the maximum over the columns `s`, the sum of the exponentials of the values less it, and a column that
    reaches it. -/
structure Run (x : ℕ → EReal) (s : Finset ℕ) (M Z I : EReal) : Prop where
  real : ((M.toReal : ℝ) : EReal) = M
  le : ∀ j ∈ s, x j ≤ M
  at_ : ∃ j ∈ s, x j = M ∧ I = (((j : ℕ) : ℝ) : EReal)
  sum : Z = ((∑ j ∈ s, rexp (x j) M.toReal : ℝ) : EReal)

/-- Two disjoint sets of columns. -/
theorem Run.merge {x : ℕ → EReal} {s t : Finset ℕ} {M Z I M' Z' I' : EReal} (h : Run x s M Z I) (h' : Run x t M' Z' I') (hd : Disjoint s t) :
    Run x (s ∪ t) (max M M') (Z * Ideal.exp (M - max M M') + Z' * Ideal.exp (M' - max M M')) (if M < M' then I' else I) := by
  obtain ⟨a, rfl⟩ : ∃ a : ℝ, M = a := ⟨_, h.real.symm⟩
  obtain ⟨b, rfl⟩ : ∃ b : ℝ, M' = b := ⟨_, h'.real.symm⟩
  have hm : max (a : EReal) (b : EReal) = ((max a b : ℝ) : EReal) := (EReal.coe_strictMono.monotone.map_max).symm
  refine ⟨by rw [hm, EReal.toReal_coe], ?_, ?_, ?_⟩
  · intro j hj
    rcases Finset.mem_union.1 hj with hj | hj
    · exact (h.le j hj).trans (le_max_left _ _)
    · exact (h'.le j hj).trans (le_max_right _ _)
  · split_ifs with hlt
    · obtain ⟨j, hj, e1, e2⟩ := h'.at_
      exact ⟨j, Finset.mem_union_right _ hj, by rw [e1, max_eq_right hlt.le], e2⟩
    · obtain ⟨j, hj, e1, e2⟩ := h.at_
      exact ⟨j, Finset.mem_union_left _ hj, by rw [e1, max_eq_left (not_lt.1 hlt)], e2⟩
  · rw [h.sum, h'.sum, hm, ← EReal.coe_sub, ← EReal.coe_sub, exp_real, exp_real, ← EReal.coe_mul, ← EReal.coe_mul, ← EReal.coe_add,
      Finset.sum_union hd, Finset.sum_mul, Finset.sum_mul]
    simp only [EReal.toReal_coe, rexp_shift]

end Cert.Soft
-- ==== Proof.Ideal.Tile.lean ====
/-
  A tile read at an index, over the extended reals.
-/
module

public import proofs.«01_k».proof.Proof.Ideal.Values
public import proofs.«01_k».proof.Proof.Math.Run
public import Idealize.ShloMosaic.PureOps.IdealRules
public import Idealize.ShloMosaic.Lib.Pipeline.ValueKit
public import Idealize.ShloMosaic.PureOps.Ideal.Laws
public import Idealize.ShloMosaic.Lib.Pointwise

@[expose] public section

noncomputable section

namespace Cert.KernelIdeal.Hand

open Idealize Idealize.ShloMosaic
open Cert.KernelIdeal Cert.KernelIdeal.Gen

theorem named_mask : (Named.named κ "mask" 0xF149F2CA#32 : Ideal .f32) = (⊥ : EReal) := IdealRules.named_const.ideal_named_scalar _ _ _ _ rfl
theorem named_cut : (Named.named κ "cut" 0x7149F2CA#32 : Ideal .f32) = (⊤ : EReal) := IdealRules.named_const.ideal_named_scalar _ _ _ _ rfl
theorem named_dropped : (Named.named κ "dropped" 0xCE6E6B28#32 : Ideal .f32) = (⊥ : EReal) := IdealRules.named_const.ideal_named_scalar _ _ _ _ rfl
theorem neg_inf : Ideal.ofBits .f32 0xFF800000#32 = (⊥ : EReal) := by simp [Ideal.ofBits, Ideal.ieee]

theorem pay829_apply (d1 : Vec Ideal S8x4096 .f32) (d2 : Vec Ideal S768x4096 .f32) (d3 : Vec Ideal S1x768 .f32) (r : Fin 8) (l : Fin 768) :
    k0_pay829 (F := Ideal) d1 d2 d3 (ix2 r l) = (∑ k : Fin 4096, (d1 (ix2 r k) : EReal) * d2 (ix2 l k)) + d3 (ix2 0 l) := by
  unfold k0_pay829
  pointwise

/-- A tile's column numbers. -/
theorem pay830_apply (i : grid0.Coords) (r : Fin 8) (l : Fin 768) : k0_pay830 i (ix2 r l) = BitVec.ofNat 32 ((i 0).val * 768 + l.val) := by
  unfold k0_pay830
  have hi : (i 0).val < 42 := (i 0).isLt
  have hl := l.isLt
  show BitVec.ofNat 32 (0 * 768 + l.val) + BitVec.ofNat 32 (i 0).val * 768#32 = _
  apply BitVec.eq_of_toNat_eq
  simp
  omega

theorem toInt_small (n : ℕ) (h : n < 2 ^ 31) : (BitVec.ofNat 32 n).toInt = n := by
  rw [BitVec.toInt_ofNat', Int.bmod_eq_of_le] <;> omega

theorem slt_small (a b : ℕ) (ha : a < 2 ^ 31) (hb : b < 2 ^ 31) : (BitVec.ofNat 32 a).slt (BitVec.ofNat 32 b) = decide (a < b) := by
  rw [BitVec.slt_eq_decide, toInt_small a ha, toInt_small b hb]; simp

theorem pay831_apply (i : grid0.Coords) (d1 : Vec Ideal S8x4096 .f32) (d2 : Vec Ideal S768x4096 .f32) (d3 : Vec Ideal S1x768 .f32) (v0 : Vec Ideal S8x1 .f32) (r : Fin 8) (l : Fin 768) :
    k0_pay831 (F := Ideal) i v0 d1 d2 d3 (ix2 r l) = if (i 0).val * 768 + l.val < 32004 then k0_pay829 (F := Ideal) d1 d2 d3 (ix2 r l) * (v0 (ix2 r 0) : EReal) else ⊥ := by
  unfold k0_pay831
  have hi : (i 0).val < 42 := (i 0).isLt
  have hl := l.isLt
  pointwise
  rw [named_mask, pay830_apply]
  show Scalar.select (BitVec.ofBool ((BitVec.ofNat 32 _).slt (BitVec.ofNat 32 32004))) _ _ = _
  rw [slt_small _ _ (by omega) (by omega)]
  split_ifs with h
  · rw [decide_eq_true h]; rfl
  · rw [decide_eq_false h]; rfl

theorem pay833_apply (i : grid0.Coords) (d1 : Vec Ideal S8x4096 .f32) (d2 : Vec Ideal S768x4096 .f32) (d3 : Vec Ideal S1x768 .f32) (v0 : Vec Ideal S8x1 .f32) (r : Fin 8)  :
    k0_pay833 (F := Ideal) i v0 d1 d2 d3 (ix2 r 0) = Finset.univ.sup fun l : Fin 768 => (k0_pay831 (F := Ideal) i v0 d1 d2 d3 (ix2 r l) : EReal) := by
  unfold k0_pay833
  generalize k0_pay831 (F := Ideal) i v0 d1 d2 d3 = y
  pointwise
  rw [neg_inf]; rfl

theorem pay835_apply (i : grid0.Coords) (d1 : Vec Ideal S8x4096 .f32) (d2 : Vec Ideal S768x4096 .f32) (d3 : Vec Ideal S1x768 .f32) (v0 : Vec Ideal S8x1 .f32) (r : Fin 8)  :
    k0_pay835 (F := Ideal) i v0 d1 d2 d3 (ix2 r 0) = ∑ l : Fin 768, Ideal.exp ((k0_pay831 (F := Ideal) i v0 d1 d2 d3 (ix2 r l) : EReal) - k0_pay833 (F := Ideal) i v0 d1 d2 d3 (ix2 r 0)) := by
  unfold k0_pay835
  generalize k0_pay831 (F := Ideal) i v0 d1 d2 d3 = y
  pointwise

/-- The least of some words is one of them. -/
theorem fold_min {ι : Type} [DecidableEq ι] (f : ι → BitVec 32) (s : Finset ι) (b : BitVec 32) :
    (s.fold IntOp.minsi b f = b ∨ ∃ l ∈ s, s.fold IntOp.minsi b f = f l) ∧ ∀ l ∈ s, (s.fold IntOp.minsi b f).toInt ≤ (f l).toInt := by
  induction s using Finset.induction with
  | empty => simp
  | insert a s ha ih =>
    rw [Finset.fold_insert ha]
    obtain ⟨ih1, ih2⟩ := ih
    generalize s.fold IntOp.minsi b f = w at ih1 ih2 ⊢
    unfold IntOp.minsi
    by_cases h : (f a).slt w = true
    · rw [if_pos h]
      rw [BitVec.slt_eq_decide, decide_eq_true_eq] at h
      refine ⟨.inr ⟨a, Finset.mem_insert_self _ _, rfl⟩, fun l hl => ?_⟩
      rcases Finset.mem_insert.1 hl with rfl | hl
      · exact le_rfl
      · exact h.le.trans (ih2 l hl)
    · rw [if_neg h]
      rw [BitVec.slt_eq_decide, decide_eq_true_eq] at h
      refine ⟨ih1.imp id fun ⟨l, hl, e⟩ => ⟨l, Finset.mem_insert_of_mem hl, e⟩, fun l hl => ?_⟩
      rcases Finset.mem_insert.1 hl with rfl | hl
      · exact not_lt.1 h
      · exact ih2 l hl

/-- The place of a tile's maximum is a column that reaches it. -/
theorem pay834_apply (i : grid0.Coords) (d1 : Vec Ideal S8x4096 .f32) (d2 : Vec Ideal S768x4096 .f32) (d3 : Vec Ideal S1x768 .f32) (v0 : Vec Ideal S8x1 .f32) (r : Fin 8)
    (h : ∃ l : Fin 768, (k0_pay831 (F := Ideal) i v0 d1 d2 d3 (ix2 r l) : EReal) = k0_pay833 (F := Ideal) i v0 d1 d2 d3 (ix2 r 0)) :
    ∃ l : Fin 768, (k0_pay831 (F := Ideal) i v0 d1 d2 d3 (ix2 r l) : EReal) = k0_pay833 (F := Ideal) i v0 d1 d2 d3 (ix2 r 0)
      ∧ k0_pay834 (F := Ideal) i v0 d1 d2 d3 (ix2 r 0) = ((((i 0).val * 768 + l.val : ℕ) : ℝ) : EReal) := by
  have hi : (i 0).val < 42 := (i 0).isLt
  unfold k0_pay834
  generalize k0_pay831 (F := Ideal) i v0 d1 d2 d3 = y at h ⊢
  generalize k0_pay833 (F := Ideal) i v0 d1 d2 d3 = z at h ⊢
  have e : ∀ w : BitVec 32, FloatOps.sitofp (F := Ideal) FTy.f32 w = ((w.toInt : ℝ) : EReal) := fun _ => rfl
  pointwise
  rw [e]
  obtain ⟨l0, h0⟩ := h
  generalize hf : (fun x : Fin 768 => if (y (ix2 r x) : EReal) = z (ix2 r 0) then k0_pay830 i (ix2 r x) else 32256#32) = f
  obtain ⟨h1, h2⟩ := fold_min f Finset.univ 2147483647#32
  have hl0 := h2 l0 (Finset.mem_univ _)
  have v0' : (f l0).toInt = ((i 0).val * 768 + l0.val : ℕ) := by
    rw [← hf]; dsimp only; rw [if_pos h0, pay830_apply, toInt_small _ (by have := l0.isLt; omega)]
  have hlt := l0.isLt
  rcases h1 with h1 | ⟨l, -, h1⟩
  · rw [h1, v0'] at hl0
    exact absurd hl0 (by rw [show (2147483647#32 : BitVec 32).toInt = 2147483647 from rfl]; omega)
  · refine ⟨l, ?_, ?_⟩
    · by_contra hn
      rw [h1, v0', ← hf] at hl0
      dsimp only at hl0
      rw [if_neg hn, show (32256#32 : BitVec 32).toInt = 32256 from rfl] at hl0
      omega
    · by_cases hn : (y (ix2 r l) : EReal) = z (ix2 r 0)
      · rw [h1, ← hf]; dsimp only
        rw [if_pos hn, pay830_apply, toInt_small _ (by have := l.isLt; omega)]; simp
      · rw [h1, v0', ← hf] at hl0
        dsimp only at hl0
        rw [if_neg hn, show (32256#32 : BitVec 32).toInt = 32256 from rfl] at hl0
        omega

/-- A tile whose first column is real: the running quantities over its columns. -/
theorem tile_run (i : grid0.Coords) (d1 : Vec Ideal S8x4096 .f32) (d2 : Vec Ideal S768x4096 .f32) (d3 : Vec Ideal S1x768 .f32) (v0 : Vec Ideal S8x1 .f32) (r : Fin 8)
    (x : ℕ → EReal) (hx : ∀ l : Fin 768, k0_pay831 (F := Ideal) i v0 d1 d2 d3 (ix2 r l) = x ((i 0).val * 768 + l.val))
    (htop : ∀ j, x j ≠ ⊤) (hreal : x ((i 0).val * 768) ≠ ⊥) :
    Cert.Soft.Run x (Finset.Ico ((i 0).val * 768) ((i 0).val * 768 + 768)) (k0_pay833 (F := Ideal) i v0 d1 d2 d3 (ix2 r 0))
      (k0_pay835 (F := Ideal) i v0 d1 d2 d3 (ix2 r 0)) (k0_pay834 (F := Ideal) i v0 d1 d2 d3 (ix2 r 0)) := by
  have hM := pay833_apply i d1 d2 d3 v0 r
  obtain ⟨l0, -, h0⟩ := Finset.exists_mem_eq_sup (Finset.univ : Finset (Fin 768)) ⟨⟨0, by omega⟩, Finset.mem_univ _⟩
    (fun l : Fin 768 => (k0_pay831 (F := Ideal) i v0 d1 d2 d3 (ix2 r l) : EReal))
  have hle : ∀ l : Fin 768, x ((i 0).val * 768 + l.val) ≤ (k0_pay833 (F := Ideal) i v0 d1 d2 d3 (ix2 r 0) : EReal) := fun l => by
    rw [hM, ← hx]; exact Finset.le_sup (f := fun l : Fin 768 => (k0_pay831 (F := Ideal) i v0 d1 d2 d3 (ix2 r l) : EReal)) (Finset.mem_univ l)
  obtain ⟨l1, e1, e2⟩ := pay834_apply i d1 d2 d3 v0 r ⟨l0, by rw [hM]; exact h0.symm⟩
  have hS := pay835_apply i d1 d2 d3 v0 r
  generalize (k0_pay833 (F := Ideal) i v0 d1 d2 d3 (ix2 r 0) : EReal) = M at *
  have hb : M ≠ ⊥ := fun hb => hreal (le_bot_iff.1 (hb ▸ hle ⟨0, by omega⟩))
  have ht : M ≠ ⊤ := by rw [← e1, hx]; exact htop _
  refine ⟨EReal.coe_toReal ht hb, ?_, ?_, ?_⟩
  · intro j hj
    rw [Finset.mem_Ico] at hj
    have := hle ⟨j - (i 0).val * 768, by omega⟩
    rwa [show (i 0).val * 768 + (j - (i 0).val * 768) = j by omega] at this
  · exact ⟨(i 0).val * 768 + l1.val, by rw [Finset.mem_Ico]; have := l1.isLt; omega, by rw [← hx]; exact e1, e2⟩
  · rw [hS, Cert.Soft.coe_sum, Finset.sum_Ico_eq_sum_range, show (i 0).val * 768 + 768 - (i 0).val * 768 = 768 by omega, ← Fin.sum_univ_eq_sum_range
      (fun l => ((Cert.Soft.rexp (x ((i 0).val * 768 + l)) M.toReal : ℝ) : EReal)) 768]
    refine Finset.sum_congr rfl fun l _ => ?_
    rw [← Cert.Soft.exp_sub (htop _), EReal.coe_toReal ht hb, hx]

end Cert.KernelIdeal.Hand
-- ==== Proof.Ideal.Blocks.lean ====
/-
  The blocks a point is given, read at an index as entries of the arguments.
-/
module

public import proofs.«01_k».proof.Proof.Ideal.Track
public import proofs.«01_k».proof.Proof.Ideal.Tile
public import Idealize.ShloMosaic.Lib.Claim

@[expose] public section

noncomputable section

namespace Cert.KernelIdeal.Hand.Track

open Idealize Idealize.ShloMosaic Idealize.ShloMosaic.Pipeline Idealize.ShloMosaic.StableHlo
open Cert.KernelIdeal Cert.KernelIdeal.Gen Cert.KernelIdeal.Hand

variable (m : (ℓ : Loc nD τ sig) → Buf (Elt Ideal) ℓ)

/-- The six arguments. -/
abbrev aE (c : Dev nD) : Vec Ideal S32256x4096 .f32 := m ((c.tc : Thread nD τ).loc main_arg0)
abbrev aH (c : Dev nD) : Vec Ideal S8x4096 .f32 := m ((c.tc : Thread nD τ).loc main_arg1)
abbrev aB (c : Dev nD) : Vec Ideal S32256 .f32 := m ((c.tc : Thread nD τ).loc main_arg2)
abbrev aT (c : Dev nD) : Vec Ideal S8 .f32 := m ((c.tc : Thread nD τ).loc main_arg3)
abbrev aP (c : Dev nD) : Vec Ideal S8 .f32 := m ((c.tc : Thread nD τ).loc main_arg4)
abbrev aK (c : Dev nD) : Vec Ideal S_ .i32 := m ((c.tc : Thread nD τ).loc main_arg5)

theorem idx_at : ∀ t : Fin cfg0.N, win0_0.index t 0 = 0 ∧ win0_0.index t 1 = 0 ∧ win0_1.index t 0 = t.val ∧ win0_1.index t 1 = 0
    ∧ win0_2.index t 0 = 0 ∧ win0_2.index t 1 = t.val ∧ win0_3.index t 0 = 0 ∧ win0_3.index t 1 = 0 := by
  decide +kernel

theorem blk0 (c : Dev nD) (n : ℕ) (r : Fin 8) (k : Fin 4096) : iblk m c 0 (pt n) (ix2 r k) = aH m c (ix2 r k) := by
  have hi := idx_at (pt n)
  unfold iblk
  blk_ext!
theorem blk1 (c : Dev nD) (n : ℕ) (hn : n < 42) (l : Fin 768) (k : Fin 4096) : iblk m c 1 (pt n) (ix2 l k) = aE m c (ix2 ⟨n * 768 + l.val, by omega⟩ k) := by
  have hi := idx_at (pt n)
  have hp : (pt n).val = n := Nat.mod_eq_of_lt hn
  unfold iblk
  blk_ext!

/-- The parameters side by side: the temperature's reciprocal, the mass, the number kept. -/
def params (t p : FVec Ideal S8 .f32) (k : IVec S_ 32) : Vec Ideal S8x128 .f32 :=
  concatenate S8x128 1 [⟨S8x1, shapeCast S8x1 (Host.divf (broadcastInDim S8 ![] bcast_S_S8 (constant (F := Ideal) S_ .f32 0x3F800000#32)) t) shapeCasts_S8_S8x1⟩,
      ⟨S8x1, shapeCast S8x1 p shapeCasts_S8_S8x1⟩,
      ⟨S8x1, broadcastInDim S8x1 ![0, 1] bcast_S1x1_S8x1_0_1 (shapeCast S1x1 (sitofp (F := Ideal) .f32 k) shapeCasts_S_S1x1)⟩,
      ⟨S8x125, broadcastInDim S8x125 ![] bcast_S_S8x125 (constant (F := Ideal) S_ .f32 0x00000000#32)⟩] concatenates_S8x1_S8x1_S8x1_S8x125_S8x128_d1

/-- The bias as a row, and the parameters side by side. -/
theorem head_v0 (X : Valuation τ sig (Elt Ideal)) : (StableHlo.after ([hostOps0 (F := Ideal)].flatten) X (Proc.devRef .tc main_v0) : Vec Ideal S1x32256 .f32)
    = (shapeCast S1x32256 (X (Proc.devRef .tc main_arg2)) shapeCasts_S32256_S1x32256 : Vec Ideal S1x32256 .f32) := by
  simp only [List.flatten_cons, List.flatten_nil, List.append_nil, hostOps0]
  after_results
  try rfl
theorem head_v9 (X : Valuation τ sig (Elt Ideal)) : (StableHlo.after ([hostOps0 (F := Ideal)].flatten) X (Proc.devRef .tc main_v9) : Vec Ideal S8x128 .f32)
    = params (X (Proc.devRef .tc main_arg3)) (X (Proc.devRef .tc main_arg4)) (X (Proc.devRef .tc main_arg5)) := by
  simp only [List.flatten_cons, List.flatten_nil, List.append_nil, hostOps0]
  after_results
  dsimp only [Matrix.cons_val_zero, Matrix.cons_val_one, Matrix.cons_val]
  try after_results
  rfl

/-- The bias as the region finds it. -/
theorem bias_at (c : Dev nD) (j : Fin 32256) : (V m c main_v0 : Vec Ideal S1x32256 .f32) (ix2 0 j) = aB m c (ix1 j) := by
  show (StableHlo.after ([hostOps0 (F := Ideal)].flatten) (fun b => m (c, b)) (Proc.devRef .tc main_v0) : Vec Ideal S1x32256 .f32) _ = _
  rw [head_v0]
  pointwise
theorem blk2 (c : Dev nD) (n : ℕ) (hn : n < 42) (l : Fin 768) : iblk m c 2 (pt n) (ix2 0 l) = aB m c (ix1 ⟨n * 768 + l.val, by omega⟩) := by
  have hi := idx_at (pt n)
  have hp : (pt n).val = n := Nat.mod_eq_of_lt hn
  rw [← bias_at]
  unfold iblk
  blk_ext!

/-- The parameters as the region finds them. -/
theorem par0_at (c : Dev nD) (r : Fin 8) : (V m c main_v9 : Vec Ideal S8x128 .f32) (ix2 r 0) = Ideal.div 1 (aT m c (ix1 r)) := by
  show (StableHlo.after ([hostOps0 (F := Ideal)].flatten) (fun b => m (c, b)) (Proc.devRef .tc main_v9) : Vec Ideal S8x128 .f32) _ = _
  rw [head_v9]
  unfold params
  pointwise
theorem par1_at (c : Dev nD) (r : Fin 8) : (V m c main_v9 : Vec Ideal S8x128 .f32) (ix2 r 1) = aP m c (ix1 r) := by
  show (StableHlo.after ([hostOps0 (F := Ideal)].flatten) (fun b => m (c, b)) (Proc.devRef .tc main_v9) : Vec Ideal S8x128 .f32) _ = _
  rw [head_v9]
  unfold params
  pointwise
theorem par2_at (c : Dev nD) (r : Fin 8) : (V m c main_v9 : Vec Ideal S8x128 .f32) (ix2 r 2) = (((aK m c ix0 : BitVec 32).toInt : ℝ) : EReal) := by
  show (StableHlo.after ([hostOps0 (F := Ideal)].flatten) (fun b => m (c, b)) (Proc.devRef .tc main_v9) : Vec Ideal S8x128 .f32) _ = _
  rw [head_v9]
  unfold params
  pointwise
  rfl

theorem blk3 (c : Dev nD) (n : ℕ) (r : Fin 8) (k : Fin 128) : iblk m c 3 (pt n) (ix2 r k) = (V m c main_v9 : Vec Ideal S8x128 .f32) (ix2 r k) := by
  have hi := idx_at (pt n)
  unfold iblk
  blk_ext!

end Cert.KernelIdeal.Hand.Track
-- ==== Proof.Ideal.Fold.lean ====
/-
  The rows and the running quantities as functions of the scaled logits, over the extended reals.
-/
module

public import proofs.«01_k».proof.Proof.Ideal.Blocks

@[expose] public section

noncomputable section

namespace Cert.KernelIdeal.Hand.Track

open Idealize Idealize.ShloMosaic Idealize.ShloMosaic.Pipeline
open Cert.KernelIdeal Cert.KernelIdeal.Gen Cert.KernelIdeal.Hand
open scoped BigOperators

variable (m : (ℓ : Loc nD τ sig) → Buf (Elt Ideal) ℓ)

/-- A row's logit. -/
def logit (c : Dev nD) (r : Fin 8) (j : Fin 32256) : EReal :=
  (∑ k : Fin 4096, (aH m c (ix2 r k) : EReal) * aE m c (ix2 j k)) + aB m c (ix1 j)

/-- A row's scaled logit, `⊥` from column 32004 on. -/
def X (c : Dev nD) (r : Fin 8) (j : ℕ) : EReal :=
  if h : j < 32004 then logit m c r ⟨j, by omega⟩ * Ideal.div 1 (aT m c (ix1 r)) else ⊥

theorem coords_at : ∀ t : Fin cfg0.N, (grid0.coords t 0).val = t.val := by decide +kernel

theorem coords_pt (n : ℕ) (hn : n < 42) : (grid0.coords (pt n) 0).val = n := by
  rw [coords_at]; exact Nat.mod_eq_of_lt hn

theorem logit_blk (c : Dev nD) (n : ℕ) (hn : n < 42) (r : Fin 8) (l : Fin 768) :
    k0_pay829 (F := Ideal) (iblk m c 0 (pt n)) (iblk m c 1 (pt n)) (iblk m c 2 (pt n)) (ix2 r l) = logit m c r ⟨n * 768 + l.val, by omega⟩ := by
  rw [pay829_apply]
  unfold logit
  rw [blk2 m c n hn l]
  congr 1
  refine Finset.sum_congr rfl fun k _ => ?_
  rw [blk0 m c n r k, blk1 m c n hn l k]

theorem col_apply (P : Vec Ideal S8x128 .f32) (k : ℕ) (h : k < 128) (r : Fin 8) : (col P k h : Vec Ideal S8x1 .f32) (ix2 r 0) = P (ix2 r ⟨k, h⟩) := by
  unfold col VecWindow.window
  congr 1
  funext a
  fin_cases a
  · exact Fin.ext (by show 0 + 1 * r.val = r.val; omega)
  · exact Fin.ext (by show k + 1 * 0 = k; omega)

theorem tile_apply (c : Dev nD) (n : ℕ) (hn : n < 42) (r : Fin 8) (l : Fin 768) :
    k0_pay831 (F := Ideal) (grid0.coords (pt n)) (col (iblk m c 3 (pt n)) 0 (by omega)) (iblk m c 0 (pt n)) (iblk m c 1 (pt n)) (iblk m c 2 (pt n)) (ix2 r l)
      = X m c r (n * 768 + l.val) := by
  have e : (col (iblk m c 3 (pt n)) 0 (by omega) : Vec Ideal S8x1 .f32) (ix2 r 0) = Ideal.div 1 (aT m c (ix1 r)) := by
    rw [← par0_at, col_apply]
    exact blk3 m c n r 0
  rw [pay831_apply, coords_pt n hn, e, logit_blk m c n hn]
  unfold X
  split_ifs <;> rfl

theorem rowsV_apply (c : Dev nD) (r : Fin 8) (j : Fin 32256) : rowsV m c (ix2 r j) = X m c r j.val := by
  have hj := j.isLt
  have hn : j.val / 768 < 42 := by omega
  have h := tile_apply m c (j.val / 768) hn r ⟨j.val % 768, Nat.mod_lt _ (by omega)⟩
  rw [show j.val / 768 * 768 + j.val % 768 = j.val by omega] at h
  rw [← h]
  have e : loc (ix2 r j : S8x32256.Idx) = ix2 r ⟨j.val % 768, Nat.mod_lt _ (by omega)⟩ := by
    funext a
    fin_cases a <;> rfl
  unfold rowsV T tileX k0_pay832
  rw [e]
  pointwise

theorem tile_at (c : Dev nD) (r : Fin 8) (hX : ∀ j, X m c r j ≠ ⊤) (hb : ∀ j < 32004, X m c r j ≠ ⊥) (n : ℕ) (hn : n < 42) :
    Cert.Soft.Run (X m c r) (Finset.Ico (n * 768) (n * 768 + 768)) (TM m c n (ix2 r 0)) (TZ m c n (ix2 r 0)) (TI m c n (ix2 r 0)) := by
  have h := tile_run (grid0.coords (pt n)) (iblk m c 0 (pt n)) (iblk m c 1 (pt n)) (iblk m c 2 (pt n)) (col (iblk m c 3 (pt n)) 0 (by omega)) r (X m c r)
    (fun l => by rw [coords_pt n hn]; exact tile_apply m c n hn r l) hX (by rw [coords_pt n hn]; exact hb _ (by omega))
  rw [coords_pt n hn] at h
  exact h

/-- The running quantities after point `n` are those of the columns met. -/
theorem acc_run (c : Dev nD) (r : Fin 8) (hX : ∀ j, X m c r j ≠ ⊤) (hb : ∀ j < 32004, X m c r j ≠ ⊥) (n : ℕ) (hn : n < 42) :
    Cert.Soft.Run (X m c r) (Finset.range (n * 768 + 768)) (accM m c n (ix2 r 0)) (accZ m c n (ix2 r 0)) (accI m c n (ix2 r 0)) := by
  have ht := tile_at m c r hX hb n hn
  induction n with
  | zero =>
    rw [Finset.range_eq_Ico]
    unfold accM accZ accI k0_pay1 k0_pay2 k0_pay3
    pointwise
    simpa using ht
  | succ n ih =>
    have h := (ih (by omega) (tile_at m c r hX hb n (by omega))).merge ht (by
      rw [Finset.disjoint_left]; intro j hj hj'
      rw [Finset.mem_range] at hj; rw [Finset.mem_Ico] at hj'; omega)
    rw [show Finset.range (n * 768 + 768) ∪ Finset.Ico ((n + 1) * 768) ((n + 1) * 768 + 768) = Finset.range ((n + 1) * 768 + 768) by
      ext j; rw [Finset.mem_union, Finset.mem_range, Finset.mem_Ico, Finset.mem_range]; omega] at h
    unfold accM accZ accI k0_pay5 k0_pay6 k0_pay7 k0_pay4
    pointwise
    exact h

end Cert.KernelIdeal.Hand.Track
-- ==== Proof.Math.Net.lean ====
/-
  The selection the kernel makes, over a linear order with a least element. A lane keeps the largest seven of the
  values it meets that lie below a threshold, an insertion at a time; a cascade reads off a lane's list the largest
  value below a further threshold. Where at most six values of a lane lie between the two thresholds, the cascade is
  exact, and the largest of the cascades over the lanes is the row's next value.
-/
module

public import Mathlib.Order.Interval.Finset.Nat
public import Mathlib.Data.EReal.Basic

@[expose] public section

noncomputable section

namespace Cert.Net

/-- What an insertion hands on to list `d`. -/
def down (a : ℕ → EReal) (t : EReal) : ℕ → EReal
  | 0 => t
  | d + 1 => min (a d) (down a t d)

/-- One insertion: each list keeps the larger. -/
def ins (a : ℕ → EReal) (t : EReal) (d : ℕ) : EReal := max (a d) (down a t d)

/-- A lane's lists after `n` values, those not below `m` masked. -/
def lane (m : EReal) (v : ℕ → EReal) : ℕ → ℕ → EReal
  | 0 => fun _ => ⊥
  | n + 1 => ins (lane m v n) (if v n < m then v n else ⊥)

/-- The first of the lists `d, …, d + n − 1` whose entry is below `t`, its entry. -/
def casc (a : ℕ → EReal) (t : EReal) : ℕ → ℕ → EReal
  | 0, _ => ⊥
  | n + 1, d => if a d < t then a d else casc a t n (d + 1)

theorem le_down {a : ℕ → EReal} {s t : EReal} {c : ℕ} (h : ∀ d, s ≤ a d ↔ d < c) (d : ℕ) : s ≤ down a t d ↔ s ≤ t ∧ d ≤ c := by
  induction d with
  | zero => simp [down]
  | succ d ih =>
    rw [down, le_min_iff, ih, h]
    constructor
    · rintro ⟨h1, h2, -⟩; exact ⟨h2, h1⟩
    · rintro ⟨h1, h2⟩; exact ⟨h2, h1, by omega⟩

theorem le_ins {a : ℕ → EReal} {s t : EReal} {c : ℕ} (h : ∀ d, s ≤ a d ↔ d < c) (d : ℕ) :
    s ≤ ins a t d ↔ d < c + (if s ≤ t then 1 else 0) := by
  rw [ins, le_max_iff, le_down h, h]
  split_ifs with ht
  · simp only [ht, true_and]; omega
  · simp [ht]

/-- How many of the first `n` values lie in `[s, m)`. -/
def count (s m : EReal) (v : ℕ → EReal) (n : ℕ) : ℕ := ((Finset.range n).filter fun j => s ≤ v j ∧ v j < m).card

/-- List `d` of a lane is at least `s` when more than `d` values lie in `[s, m)`. -/
theorem le_lane {s m : EReal} (hs : ⊥ < s) (v : ℕ → EReal) (n d : ℕ) : s ≤ lane m v n d ↔ d < count s m v n := by
  induction n generalizing d with
  | zero => simp [lane, count, hs.ne']
  | succ n ih =>
    rw [lane, le_ins ih]
    have e : count s m v (n + 1) = count s m v n + (if s ≤ (if v n < m then v n else ⊥) then 1 else 0) := by
      unfold count
      rw [Finset.range_add_one, Finset.filter_insert]
      by_cases hm : v n < m
      · by_cases hv : s ≤ v n
        · rw [if_pos ⟨hv, hm⟩, Finset.card_insert_of_notMem (by simp), if_pos hm, if_pos hv]
        · rw [if_neg (fun h => hv h.1), if_pos hm, if_neg hv]; rfl
      · rw [if_neg (fun h => hm h.2), if_neg hm, if_neg (by simpa using hs.ne')]; rfl
    rw [e]

theorem casc_eq {a : ℕ → EReal} {t : EReal} {k : ℕ} (h : ∀ d, t ≤ a d ↔ d < k) (n d : ℕ) (hd : d ≤ k) (hk : k < d + n) :
    casc a t n d = a k := by
  induction n generalizing d with
  | zero => omega
  | succ n ih =>
    rw [casc]
    by_cases hc : d = k
    · subst hc
      rw [if_pos (not_le.1 fun hh => absurd ((h d).1 hh) (lt_irrefl _))]
    · rw [if_neg (not_lt.2 ((h d).2 (by omega)))]
      exact ih (d + 1) (by omega) (by omega)

/-- The cascade finds the largest value below `t`, when at most six lie between `t` and `m`. -/
theorem le_casc {s t m : EReal} (hs : ⊥ < s) (ht : ⊥ < t) (htm : t ≤ m) (v : ℕ → EReal) (n : ℕ) (hc : count t m v n ≤ 6) :
    s ≤ casc (lane m v n) t 7 0 ↔ ∃ j < n, s ≤ v j ∧ v j < t := by
  rw [casc_eq (le_lane ht v n) 7 0 (Nat.zero_le _) (by omega), le_lane hs]
  constructor
  · intro h
    by_contra hn
    refine absurd (Finset.card_le_card (s := (Finset.range n).filter fun j => s ≤ v j ∧ v j < m) (t := (Finset.range n).filter fun j => t ≤ v j ∧ v j < m) ?_) (not_le.2 h)
    intro j hj
    rw [Finset.mem_filter, Finset.mem_range] at hj ⊢
    exact ⟨hj.1, not_lt.1 fun hlt => hn ⟨j, hj.1, hj.2.1, hlt⟩, hj.2.2⟩
  · rintro ⟨j, hj, h1, h2⟩
    refine Finset.card_lt_card (Finset.ssubset_iff_subset_ne.2 ⟨?_, ?_⟩)
    · intro i hi
      rw [Finset.mem_filter, Finset.mem_range] at hi ⊢
      exact ⟨hi.1, (h1.trans h2.le).trans hi.2.1, hi.2.2⟩
    · intro e
      have : j ∈ (Finset.range n).filter fun j => t ≤ v j ∧ v j < m := by
        rw [e, Finset.mem_filter, Finset.mem_range]
        exact ⟨hj, h1, h2.trans_le htm⟩
      rw [Finset.mem_filter] at this
      exact absurd this.2.1 (not_le.2 h2)

theorem le_first {s m : EReal} (hs : ⊥ < s) (v : ℕ → EReal) (n : ℕ) : s ≤ lane m v n 0 ↔ ∃ j < n, s ≤ v j ∧ v j < m := by
  rw [le_lane hs, count, Finset.card_pos]
  constructor
  · rintro ⟨j, hj⟩
    rw [Finset.mem_filter, Finset.mem_range] at hj
    exact ⟨j, hj⟩
  · rintro ⟨j, hj⟩
    exact ⟨j, by rw [Finset.mem_filter, Finset.mem_range]; exact hj⟩

/-- The columns `col 0, col 1, …, col K` hold the largest values of `x` in order, the first `K` of them strictly
    ordered and each the only one of its value. -/
structure Top (x : ℕ → EReal) (N K : ℕ) (col : ℕ → ℕ) : Prop where
  bound : ∀ k ≤ K, col k < N
  pos : ∀ k ≤ K, ⊥ < x (col k)
  anti : ∀ k < K, x (col (k + 1)) < x (col k)
  next : ∀ k < K, ∀ c < N, x c < x (col k) → x c ≤ x (col (k + 1))
  only : ∀ k < K, ∀ c < N, x c = x (col k) → c = col k
  first : ∀ c < N, x c ≤ x (col 0)

variable {x : ℕ → EReal} {N K : ℕ} {col : ℕ → ℕ}

theorem Top.anti_le (h : Top x N K col) {a b : ℕ} (hab : a ≤ b) (hb : b ≤ K) : x (col b) ≤ x (col a) := by
  induction b, hab using Nat.le_induction with
  | base => exact le_rfl
  | succ b hab ih => exact (h.anti b (by omega)).le.trans (ih (by omega))

/-- A value from `d + 1` places below place `b` is one of the places between. -/
theorem Top.between (h : Top x N K col) {b c : ℕ} (d : ℕ) (hd : b + 1 + d ≤ K) (hc : c < N) (h1 : x (col (b + 1 + d)) ≤ x c) (h2 : x c < x (col b)) :
    ∃ k ∈ Finset.Icc (b + 1) (b + 1 + d), x c = x (col k) := by
  induction d with
  | zero => exact ⟨b + 1, by simp, le_antisymm (h.next b (by omega) c hc h2) h1⟩
  | succ d ih =>
    by_cases hq : x (col (b + 1 + d)) ≤ x c
    · obtain ⟨k, hk, e⟩ := ih (by omega) hq
      exact ⟨k, by rw [Finset.mem_Icc] at hk ⊢; omega, e⟩
    · exact ⟨b + 1 + d + 1, by rw [Finset.mem_Icc]; omega, le_antisymm (h.next _ (by omega) c hc (not_le.1 hq)) h1⟩

/-- A lane's values between place `b + 1 + d` and place `b` number at most `d + 1`. -/
theorem Top.count_le {n w : ℕ} (h : Top x (n * w) K col) {b : ℕ} (d : ℕ) (hd : b + 1 + d < K) (l : ℕ) (hl : l < w) :
    count (x (col (b + 1 + d))) (x (col b)) (fun j => x (w * j + l)) n ≤ d + 1 := by
  refine (Finset.card_le_card (t := (Finset.Icc (b + 1) (b + 1 + d)).image fun k => col k / w) ?_).trans
    (Finset.card_image_le.trans (by rw [Nat.card_Icc]; omega))
  intro j hj
  rw [Finset.mem_filter, Finset.mem_range] at hj
  have hc : w * j + l < n * w := by
    calc w * j + l < w * j + w := by omega
      _ = w * (j + 1) := by ring
      _ ≤ w * n := Nat.mul_le_mul_left _ hj.1
      _ = n * w := Nat.mul_comm _ _
  obtain ⟨k, hk, e⟩ := h.between d (by omega) hc hj.2.1 hj.2.2
  rw [Finset.mem_image]
  refine ⟨k, hk, ?_⟩
  rw [Finset.mem_Icc] at hk
  rw [← h.only k (by omega) _ hc e, Nat.mul_add_div (by omega), Nat.div_eq_of_lt hl, Nat.add_zero]

/-- The row maxima read off in one pass over `n` chunks of `w` lanes: the first from the lanes' first lists, each later
    one from their cascades below the one before. -/
def nexts (x : ℕ → EReal) (n w : ℕ) (m : EReal) : ℕ → EReal
  | 0 => (Finset.univ : Finset (Fin w)).sup fun l => lane m (fun j => x (w * j + l.val)) n 0
  | d + 1 => (Finset.univ : Finset (Fin w)).sup fun l => casc (lane m (fun j => x (w * j + l.val)) n) (nexts x n w m d) 7 0

theorem eq_of_le_iff {a b : EReal} (h : ∀ s, ⊥ < s → (s ≤ a ↔ s ≤ b)) : a = b := by
  refine eq_of_forall_le_iff fun s => ?_
  by_cases hs : s = ⊥
  · simp [hs]
  · exact h s (bot_lt_iff_ne_bot.2 hs)

theorem le_sup_iff {w : ℕ} (f : Fin w → EReal) {s : EReal} (hs : ⊥ < s) : s ≤ (Finset.univ : Finset (Fin w)).sup f ↔ ∃ l, s ≤ f l := by
  rw [Finset.le_sup_iff hs]; simp

/-- Some column below `t` reaches `s` when some lane's chunk does. -/
theorem exists_lane {n w : ℕ} (hw : 0 < w) (p : EReal → Prop) :
    (∃ l : Fin w, ∃ j < n, p (x (w * j + l.val))) ↔ ∃ c < n * w, p (x c) := by
  constructor
  · rintro ⟨l, j, hj, h⟩
    refine ⟨w * j + l.val, ?_, h⟩
    have := l.isLt
    calc w * j + l < w * j + w := by omega
      _ = w * (j + 1) := by ring
      _ ≤ w * n := Nat.mul_le_mul_left _ hj
      _ = n * w := Nat.mul_comm _ _
  · rintro ⟨c, hc, h⟩
    refine ⟨⟨c % w, Nat.mod_lt _ hw⟩, c / w, (Nat.div_lt_iff_lt_mul hw).2 hc, ?_⟩
    rw [Nat.div_add_mod]; exact h

/-- A pass that starts from place `b` reads off the seven places after it. -/
theorem nexts_eq {n w : ℕ} (hw : 0 < w) (h : Top x (n * w) K col) {b : ℕ} (d : ℕ) (hd6 : d ≤ 6) (hd : b + 1 + d < K) :
    nexts x n w (x (col b)) d = x (col (b + 1 + d)) := by
  have key : ∀ k < K, ∀ s : EReal, (∃ c < n * w, s ≤ x c ∧ x c < x (col k)) ↔ s ≤ x (col (k + 1)) := by
    intro k hk s
    constructor
    · rintro ⟨c, hc, h1, h2⟩
      exact h1.trans (h.next k hk c hc h2)
    · intro hs
      exact ⟨col (k + 1), h.bound _ hk, hs, h.anti k hk⟩
  induction d with
  | zero =>
    refine eq_of_le_iff fun s hs => ?_
    rw [nexts, le_sup_iff _ hs]
    simp only [le_first hs]
    rw [exists_lane hw (fun y => s ≤ y ∧ y < x (col b)), key b (by omega)]
  | succ d ih =>
    refine eq_of_le_iff fun s hs => ?_
    rw [nexts, le_sup_iff _ hs, ih (by omega) (by omega)]
    have hl : ∀ l : Fin w, s ≤ casc (lane (x (col b)) (fun j => x (w * j + l.val)) n) (x (col (b + 1 + d))) 7 0
        ↔ ∃ j < n, s ≤ x (w * j + l.val) ∧ x (w * j + l.val) < x (col (b + 1 + d)) := fun l =>
      le_casc hs (h.pos _ (by omega)) (h.anti_le (by omega) (by omega)) _ n ((h.count_le d (by omega) l.val l.isLt).trans (by omega))
    simp only [hl]
    rw [exists_lane hw (fun y => s ≤ y ∧ y < x (col (b + 1 + d))), key _ (by omega)]
    rfl

end Cert.Net
-- ==== Proof.Ideal.Vals.lean ====
/-
  The loop's values over the extended reals: after the seven trips the first fifty columns of the value buffer hold the
  row's fifty largest scaled logits in order.
-/
module

public import proofs.«01_k».proof.Proof.Ideal.Tile
public import proofs.«01_k».proof.Proof.Math.Net

@[expose] public section

noncomputable section

namespace Cert.KernelIdeal.Hand

open Idealize Idealize.ShloMosaic
open Cert.KernelIdeal Cert.KernelIdeal.Gen

theorem below_apply (m : Vec Ideal S8x1 .f32) (v : Vec Ideal S8x512 .f32) (r : Fin 8) (l : Fin 512) :
    below m v (ix2 r l) = if (v (ix2 r l) : EReal) < m (ix2 r 0) then (v (ix2 r l) : EReal) else ⊥ := by
  unfold below maskV
  pointwise
  rw [named_mask]

/-- Each lane's lists are the lane's of the recursion. -/
theorem lists_apply (m : Vec Ideal S8x1 .f32) (c : ℕ → Vec Ideal S8x512 .f32) (n : ℕ) (r : Fin 8) (l : Fin 512) :
    (lists m c n).a0 (ix2 r l) = Cert.Net.lane (m (ix2 r 0)) (fun j => c j (ix2 r l)) n 0
    ∧ (lists m c n).a1 (ix2 r l) = Cert.Net.lane (m (ix2 r 0)) (fun j => c j (ix2 r l)) n 1
    ∧ (lists m c n).a2 (ix2 r l) = Cert.Net.lane (m (ix2 r 0)) (fun j => c j (ix2 r l)) n 2
    ∧ (lists m c n).a3 (ix2 r l) = Cert.Net.lane (m (ix2 r 0)) (fun j => c j (ix2 r l)) n 3
    ∧ (lists m c n).a4 (ix2 r l) = Cert.Net.lane (m (ix2 r 0)) (fun j => c j (ix2 r l)) n 4
    ∧ (lists m c n).a5 (ix2 r l) = Cert.Net.lane (m (ix2 r 0)) (fun j => c j (ix2 r l)) n 5
    ∧ (lists m c n).a6 (ix2 r l) = Cert.Net.lane (m (ix2 r 0)) (fun j => c j (ix2 r l)) n 6 := by
  induction n with
  | zero =>
    have h : (maskV : FVec Ideal S8x512 .f32) (ix2 r l) = (⊥ : EReal) := named_mask
    exact ⟨h, h, h, h, h, h, h⟩
  | succ n ih =>
    obtain ⟨h0, h1, h2, h3, h4, h5, h6⟩ := ih
    unfold lists insert
    dsimp only
    generalize lists m c n = a at *
    have hb := below_apply m (c n) r l
    generalize below m (c n) = t at hb ⊢
    unfold Cert.Net.lane Cert.Net.ins
    rw [← hb]
    simp only [Cert.Net.down]
    rw [← h0, ← h1, ← h2, ← h3, ← h4, ← h5, ← h6]
    exact ⟨rfl, rfl, rfl, rfl, rfl, rfl, rfl⟩

theorem cascade_apply (m : Vec Ideal S8x1 .f32) (c : ℕ → Vec Ideal S8x512 .f32) (n : ℕ) (t : FVec Ideal S8x1 .f32) (r : Fin 8) (l : Fin 512) :
    cascade (lists m c n) t (ix2 r l) = Cert.Net.casc (Cert.Net.lane (m (ix2 r 0)) (fun j => c j (ix2 r l)) n) (t (ix2 r 0)) 7 0 := by
  obtain ⟨h0, h1, h2, h3, h4, h5, h6⟩ := lists_apply m c n r l
  unfold cascade maskV
  simp only [Cert.Net.casc]
  rw [← h0, ← h1, ← h2, ← h3, ← h4, ← h5, ← h6]
  generalize lists m c n = a
  pointwise
  rw [named_mask]

theorem rowmax_apply (y : FVec Ideal S8x512 .f32) (r : Fin 8) : rowmax y (ix2 r 0) = (Finset.univ : Finset (Fin 512)).sup fun l => (y (ix2 r l) : EReal) := by
  unfold rowmax
  pointwise
  rw [neg_inf]; rfl

theorem lane_congr {m : EReal} {v v' : ℕ → EReal} (n : ℕ) (h : ∀ j < n, v j = v' j) : Cert.Net.lane m v n = Cert.Net.lane m v' n := by
  induction n with
  | zero => rfl
  | succ n ih => rw [Cert.Net.lane, Cert.Net.lane, ih fun j hj => h j (by omega), h n (by omega)]

theorem nexts_apply (m : Vec Ideal S8x1 .f32) (c : ℕ → Vec Ideal S8x512 .f32) (r : Fin 8) (x : ℕ → EReal)
    (hc : ∀ j < 63, ∀ l : Fin 512, c j (ix2 r l) = x (512 * j + l.val)) (d : ℕ) :
    nexts (lists m c 63) d (ix2 r 0) = Cert.Net.nexts x 63 512 (m (ix2 r 0)) d := by
  have hl : ∀ l : Fin 512, Cert.Net.lane (m (ix2 r 0)) (fun j => c j (ix2 r l)) 63 = Cert.Net.lane (m (ix2 r 0)) (fun j => x (512 * j + l.val)) 63 :=
    fun l => lane_congr 63 fun j hj => hc j hj l
  induction d with
  | zero =>
    rw [nexts, Cert.Net.nexts, rowmax_apply]
    exact Finset.sup_congr rfl fun l _ => by rw [(lists_apply m c 63 r l).1, hl]
  | succ d ih =>
    rw [nexts, Cert.Net.nexts, rowmax_apply]
    exact Finset.sup_congr rfl fun l _ => by rw [cascade_apply, hl, ih]

theorem put_apply (w : ℕ) (hw : w < 2 ^ 32) (t : FVec Ideal S8x1 .f32) (vals : FVec Ideal S8x128 .f32) (r : Fin 8) (k : Fin 128) :
    put (BitVec.ofNat 32 w) t vals (ix2 r k) = if k.val = w then (t (ix2 r 0) : EReal) else vals (ix2 r k) := by
  unfold put cols
  pointwise
  by_cases h : k.val = w
  · rw [if_pos h, h]; simp [Scalar.select, IntOp.cmpi]
  · rw [if_neg h]
    have : BitVec.ofNat 32 k.val ≠ BitVec.ofNat 32 w := fun e => h (by
      have := congrArg BitVec.toNat e
      rw [BitVec.toNat_ofNat, BitVec.toNat_ofNat] at this
      have := k.isLt; omega)
    show Scalar.select (BitVec.ofBool (BitVec.ofNat 32 k.val == BitVec.ofNat 32 w)) _ _ = _
    rw [beq_eq_false_iff_ne.2 this]; rfl

theorem base_eq (p : ℕ) (hp : p < 7) : base p = BitVec.ofNat 32 (1 + 7 * p) := by
  interval_cases p <;> rfl

/-- After `p` trips: the carried maximum is place `7 p`, and the columns up to it hold their places. -/
theorem trips_apply (c : ℕ → Vec Ideal S8x512 .f32) (r : Fin 8) (x : ℕ → EReal) (col : ℕ → ℕ)
    (hc : ∀ j < 63, ∀ l : Fin 512, c j (ix2 r l) = x (512 * j + l.val)) (hT : Cert.Net.Top x (63 * 512) 50 col)
    (mx : Vec Ideal S8x1 .f32) (hm : mx (ix2 r 0) = x (col 0)) (p : ℕ) (hp : p ≤ 7) :
    (trips c (mx, k0_pay822 mx) p).1 (ix2 r 0) = x (col (7 * p))
      ∧ ∀ k : Fin 128, k.val ≤ 7 * p → (trips c (mx, k0_pay822 mx) p).2 (ix2 r k) = x (col k.val) := by
  induction p with
  | zero =>
    refine ⟨hm, fun k hk => ?_⟩
    obtain rfl : k = 0 := Fin.ext (by simpa using hk)
    show k0_pay822 mx (ix2 r 0) = _
    rw [show ((0 : Fin 128).val) = 0 from rfl, ← hm]
    unfold k0_pay822
    pointwise
  | succ p ih =>
    obtain ⟨h1, h2⟩ := ih (by omega)
    rw [trips, trip]
    generalize trips c (mx, k0_pay822 mx) p = acc at *
    have hn : ∀ d ≤ 6, nexts (lists acc.1 c 63) d (ix2 r 0) = x (col (7 * p + 1 + d)) := fun d hd => by
      rw [nexts_apply acc.1 c r x hc, h1]
      exact Cert.Net.nexts_eq (by omega) hT d hd (by omega)
    dsimp only
    refine ⟨(hn 6 le_rfl).trans (by congr 2), fun k hk => ?_⟩
    have ha : ∀ d ≤ 6, Scalar.addi (base p) (BitVec.ofNat 32 d) = BitVec.ofNat 32 (7 * p + 1 + d) := fun d hd => by
      rw [base_eq p (by omega)]
      show BitVec.ofNat 32 _ + BitVec.ofNat 32 _ = _
      rw [← BitVec.ofNat_add]; congr 1; omega
    have e0 : base p = BitVec.ofNat 32 (7 * p + 1 + 0) := by rw [base_eq p (by omega)]; congr 1; omega
    rw [ha 6 (by omega), ha 5 (by omega), ha 4 (by omega), ha 3 (by omega), ha 2 (by omega), ha 1 (by omega), e0]
    rw [put_apply _ (by omega), put_apply _ (by omega), put_apply _ (by omega), put_apply _ (by omega), put_apply _ (by omega), put_apply _ (by omega), put_apply _ (by omega),
      hn 6 (by omega), hn 5 (by omega), hn 4 (by omega), hn 3 (by omega), hn 2 (by omega), hn 1 (by omega), hn 0 (by omega)]
    split_ifs with g6 g5 g4 g3 g2 g1 g0
    · rw [g6]
    · rw [g5]
    · rw [g4]
    · rw [g3]
    · rw [g2]
    · rw [g1]
    · rw [g0]
    · exact h2 k (by omega)

/-- The value buffer's first fifty columns. -/
theorem vals_apply (y : Vec Ideal S8x32256 .f32) (mx : Vec Ideal S8x1 .f32) (r : Fin 8) (x : ℕ → EReal) (col : ℕ → ℕ)
    (hy : ∀ j : Fin 32256, y (ix2 r j) = x j.val) (hT : Cert.Net.Top x 32256 50 col) (hm : mx (ix2 r 0) = x (col 0)) (k : Fin 128) (hk : k.val < 50) :
    vals y mx (ix2 r k) = x (col k.val) := by
  unfold vals
  refine (trips_apply (chunkV y) r x col ?_ hT mx hm 7 le_rfl).2 k (by omega)
  intro j hj l
  have := l.isLt
  rw [← hy ⟨512 * j + l.val, by omega⟩]
  unfold chunkV
  rw [dif_pos hj]
  unfold VecWindow.window
  congr 1
  funext a
  fin_cases a
  · exact Fin.ext (by show 0 + 1 * r.val = r.val; omega)
  · exact Fin.ext (by show 512 * j + 1 * l.val = 512 * j + l.val; omega)

end Cert.KernelIdeal.Hand
-- ==== Proof.Math.Row.lean ====
/-
  One row of scaled logits, sorted from the largest: which places are kept, the log-probabilities, and the facts by which a
  threshold on the values and a mask on the places say the same.
-/
module

public import proofs.«01_k».proof.Proof.Math.Run
public import proofs.«01_k».proof.Proof.Math.Net
public import Mathlib.Analysis.SpecialFunctions.Log.Basic

@[expose] public section

noncomputable section

namespace Cert.Row

open Idealize.ShloMosaic Cert.Soft
open scoped BigOperators

/-- The row `x` is real on the 32004 columns and `⊥` past them; `col` lists its columns from the largest value down and `inv` is its
    inverse; the fifty-one largest are distinct. -/
structure Sorted (x : ℕ → EReal) (col inv : ℕ → ℕ) : Prop where
  real : ∀ j < 32004, (((x j).toReal : ℝ) : EReal) = x j
  pad : ∀ j, 32004 ≤ j → x j = ⊥
  col_lt : ∀ k < 32004, col k < 32004
  inv_lt : ∀ j < 32004, inv j < 32004
  col_inv : ∀ j < 32004, col (inv j) = j
  inv_col : ∀ k < 32004, inv (col k) = k
  anti : ∀ a b, a ≤ b → b < 32004 → x (col b) ≤ x (col a)
  strict : ∀ k < 50, x (col (k + 1)) < x (col k)

/-- The row's maximum. -/
def M (x : ℕ → EReal) (col : ℕ → ℕ) : ℝ := (x (col 0)).toReal
/-- The sum of exponentials of the row. -/
def Z (x : ℕ → EReal) (col : ℕ → ℕ) : ℝ := ∑ j ∈ Finset.range 32004, rexp (x j) (M x col)
/-- The probability of place `k`. -/
def prob (x : ℕ → EReal) (col : ℕ → ℕ) (k : ℕ) : ℝ := rexp (x (col k)) (M x col) / Z x col
/-- The probability before place `k`. -/
def cum (x : ℕ → EReal) (col : ℕ → ℕ) (k : ℕ) : ℝ := ∑ a ∈ Finset.range k, prob x col a
/-- Place `k` is among the `T` largest and the probability before it does not exceed `P`. -/
def Keep (x : ℕ → EReal) (col : ℕ → ℕ) (P : EReal) (T : ℤ) (k : ℕ) : Prop := (k : ℤ) < T ∧ ((cum x col k : ℝ) : EReal) ≤ P

open Classical in
/-- The kept places' sum of exponentials. -/
def S (x : ℕ → EReal) (col : ℕ → ℕ) (P : EReal) (T : ℤ) : ℝ := ∑ k ∈ Finset.range 32004, if Keep x col P T k then rexp (x (col k)) (M x col) else 0

open Classical in
/-- The masked logit of column `j`. -/
def masked (x : ℕ → EReal) (col inv : ℕ → ℕ) (P : EReal) (T : ℤ) (j : ℕ) : EReal := if Keep x col P T (inv j) then x j else ⊥

/-- The log-probability of column `j`. -/
def out (x : ℕ → EReal) (col inv : ℕ → ℕ) (P : EReal) (T : ℤ) (j : ℕ) : EReal :=
  masked x col inv P T j - ((M x col + Real.log (S x col P T) : ℝ) : EReal)

variable {x : ℕ → EReal} {col inv : ℕ → ℕ} {P : EReal} {T : ℤ}

namespace Sorted

theorem ne_top (h : Sorted x col inv) (j : ℕ) : x j ≠ ⊤ := by
  by_cases hj : j < 32004
  · rw [← h.real j hj]; exact EReal.coe_ne_top _
  · rw [h.pad j (by omega)]; exact bot_ne_top

theorem ne_bot (h : Sorted x col inv) (j : ℕ) (hj : j < 32004) : x j ≠ ⊥ := by
  rw [← h.real j hj]; exact EReal.coe_ne_bot _

theorem M_eq (h : Sorted x col inv) : ((M x col : ℝ) : EReal) = x (col 0) := h.real _ (h.col_lt 0 (by omega))

theorem lt_of_lt (h : Sorted x col inv) {a b : ℕ} (hab : a < b) (ha : a < 50) (hb : b < 32004) : x (col b) < x (col a) :=
  (h.anti (a + 1) b hab hb).trans_lt (h.strict a ha)

/-- The order as the selection uses it. -/
theorem top (h : Sorted x col inv) : Cert.Net.Top x 32256 50 col where
  bound k hk := (h.col_lt k (by omega)).trans (by omega)
  pos k hk := bot_lt_iff_ne_bot.2 (h.ne_bot _ (h.col_lt k (by omega)))
  anti k hk := h.strict k hk
  next k hk c hc hlt := by
    by_cases hj : c < 32004
    · rw [← h.col_inv c hj] at hlt ⊢
      refine h.anti _ _ ?_ (h.inv_lt c hj)
      by_contra hn
      exact absurd (h.anti (inv c) k (by omega) (by omega)) (not_le.2 hlt)
    · rw [h.pad c (by omega)]; exact bot_le
  only k hk c hc e := by
    by_cases hj : c < 32004
    · rw [← h.col_inv c hj] at e ⊢
      rcases lt_trichotomy (inv c) k with hlt | heq | hgt
      · exact absurd e (h.lt_of_lt hlt (by omega) (by omega)).ne'
      · rw [heq]
      · exact absurd e (h.lt_of_lt hgt hk (h.inv_lt c hj)).ne
    · exact absurd (e ▸ h.pad c (by omega)) (h.ne_bot _ (h.col_lt k (by omega)))
  first c hc := by
    by_cases hj : c < 32004
    · have := h.anti 0 (inv c) (by omega) (h.inv_lt c hj)
      rwa [h.col_inv c hj] at this
    · rw [h.pad c (by omega)]; exact bot_le

theorem Z_pos (h : Sorted x col inv) : 0 < Z x col :=
  Finset.sum_pos (fun j hj => rexp_pos (h.ne_bot j (Finset.mem_range.1 hj)) _) ⟨0, Finset.mem_range.2 (by omega)⟩

theorem Z_padded (h : Sorted x col inv) : ∑ j ∈ Finset.range 32256, rexp (x j) (M x col) = Z x col := by
  refine (Finset.sum_subset (fun j hj => ?_) (fun j hj hn => ?_)).symm
  · rw [Finset.mem_range] at hj ⊢; omega
  · rw [Finset.mem_range] at hn
    rw [h.pad j (by omega)]; exact if_pos rfl

/-- A sum over the places is the sum over the columns. -/
theorem sum_col (h : Sorted x col inv) (f : ℕ → ℝ) : ∑ k ∈ Finset.range 32004, f k = ∑ j ∈ Finset.range 32004, f (inv j) :=
  Finset.sum_nbij' col inv (fun k hk => Finset.mem_range.2 (h.col_lt k (Finset.mem_range.1 hk)))
    (fun j hj => Finset.mem_range.2 (h.inv_lt j (Finset.mem_range.1 hj)))
    (fun k hk => h.inv_col k (Finset.mem_range.1 hk)) (fun j hj => h.col_inv j (Finset.mem_range.1 hj))
    (fun k hk => by rw [h.inv_col k (Finset.mem_range.1 hk)])

theorem Z_sorted (h : Sorted x col inv) : ∑ k ∈ Finset.range 32004, rexp (x (col k)) (M x col) = Z x col := by
  rw [h.sum_col]
  exact Finset.sum_congr rfl fun j hj => by rw [h.col_inv j (Finset.mem_range.1 hj)]

theorem prob_nonneg (h : Sorted x col inv) (k : ℕ) : 0 ≤ prob x col k := div_nonneg (rexp_nonneg _ _) h.Z_pos.le

theorem keep_down (h : Sorted x col inv) {a b : ℕ} (hab : a ≤ b) (hb : Keep x col P T b) : Keep x col P T a :=
  ⟨lt_of_le_of_lt (by exact_mod_cast hab) hb.1,
    (EReal.coe_le_coe_iff.2 (Finset.sum_le_sum_of_subset_of_nonneg (Finset.range_mono hab) fun k _ _ => h.prob_nonneg k)).trans hb.2⟩

theorem keep_zero (hP : 0 ≤ P) (hT : 1 ≤ T) : Keep x col P T 0 := ⟨by simp; omega, by unfold cum; simpa using hP⟩

theorem S_pos (h : Sorted x col inv) (hP : 0 ≤ P) (hT : 1 ≤ T) : 0 < S x col P T := by
  classical
  unfold S
  refine Finset.sum_pos' (fun k _ => ?_) ⟨0, Finset.mem_range.2 (by omega), ?_⟩
  · split_ifs
    · exact rexp_nonneg _ _
    · exact le_rfl
  · rw [if_pos (keep_zero hP hT)]
    exact rexp_pos (h.ne_bot _ (h.col_lt 0 (by omega))) _

open Classical in
theorem S_fifty (hT : T ≤ 50) : S x col P T = ∑ k ∈ Finset.range 50, if Keep x col P T k then rexp (x (col k)) (M x col) else 0 := by
  refine (Finset.sum_subset (Finset.range_mono (by omega)) (fun k _ hk => ?_)).symm
  rw [Finset.mem_range] at hk
  exact if_neg fun hk' => by have := hk'.1; omega

open Classical in
/-- The least kept value cuts exactly at the kept places. -/
theorem cut (h : Sorted x col inv) (hP : 0 ≤ P) (hT : 1 ≤ T) (hT' : T ≤ 50) (j : ℕ) (hj : j < 32004) :
    (Finset.univ.inf fun k : Fin 50 => if Keep x col P T k.val then x (col k.val) else ⊤) ≤ x j ↔ Keep x col P T (inv j) := by
  constructor
  · intro hle
    obtain ⟨k, -, hk⟩ := Finset.exists_mem_eq_inf (Finset.univ : Finset (Fin 50)) ⟨0, Finset.mem_univ _⟩
      (fun k : Fin 50 => if Keep x col P T k.val then x (col k.val) else ⊤)
    rw [hk] at hle
    split_ifs at hle with hK
    · refine h.keep_down ?_ hK
      by_contra hn
      have := h.lt_of_lt (by omega : k.val < inv j) k.isLt (h.inv_lt j hj)
      rw [h.col_inv j hj] at this
      exact absurd hle (not_le.2 this)
    · exact absurd (top_le_iff.1 hle) (h.ne_top j)
  · intro hK
    have h50 : inv j < 50 := by have := hK.1; omega
    refine (Finset.inf_le (Finset.mem_univ (⟨inv j, h50⟩ : Fin 50))).trans ?_
    rw [if_pos hK, h.col_inv j hj]

theorem masked_ne_top (h : Sorted x col inv) (j : ℕ) : masked x col inv P T j ≠ ⊤ := by
  unfold masked; split_ifs
  · exact h.ne_top j
  · exact bot_ne_top

theorem masked_le (h : Sorted x col inv) (j : ℕ) : masked x col inv P T j ≤ ((M x col : ℝ) : EReal) := by
  rw [h.M_eq]
  unfold masked; split_ifs
  · by_cases hj : j < 32256
    · exact h.top.first j hj
    · rw [h.pad j (by omega)]; exact bot_le
  · exact bot_le

theorem masked_first (h : Sorted x col inv) (hP : 0 ≤ P) (hT : 1 ≤ T) : masked x col inv P T (col 0) = ((M x col : ℝ) : EReal) := by
  rw [h.M_eq]; unfold masked
  rw [h.inv_col 0 (by omega), if_pos (keep_zero hP hT)]

theorem masked_sum (h : Sorted x col inv) : ∑ j ∈ Finset.range 32004, rexp (masked x col inv P T j) (M x col) = S x col P T := by
  unfold S
  refine Eq.trans ?_ (h.sum_col _).symm
  refine Finset.sum_congr rfl fun j hj => ?_
  rw [h.col_inv j (Finset.mem_range.1 hj)]
  unfold masked
  split_ifs
  · rfl
  · exact if_pos rfl

/-- Away from the first place the masked logit is less. -/
theorem masked_lt (h : Sorted x col inv) (j : ℕ) (hj : j < 32004) (hne : j ≠ col 0) : masked x col inv P T j < ((M x col : ℝ) : EReal) :=
  lt_of_le_of_ne (h.masked_le j) fun e => hne (by
    unfold masked at e
    split_ifs at e
    · rw [h.M_eq] at e; exact h.top.only 0 (by omega) j (by omega) e
    · exact absurd e (EReal.bot_ne_coe _))

theorem rexp_masked_lt (h : Sorted x col inv) (j : ℕ) (hj : j < 32004) (hne : j ≠ col 0) :
    rexp (masked x col inv P T j) (M x col) < 1 := by
  have := h.masked_lt (P := P) (T := T) j hj hne
  have ht := h.masked_ne_top (P := P) (T := T) j
  generalize masked x col inv P T j = y at *
  unfold rexp
  split_ifs with hb
  · exact one_pos
  · obtain ⟨a, rfl⟩ : ∃ a : ℝ, y = a := ⟨_, (EReal.coe_toReal ht hb).symm⟩
    rw [EReal.toReal_coe, Real.exp_lt_one_iff]
    have := EReal.coe_lt_coe_iff.1 this
    linarith

end Sorted
end Cert.Row
-- ==== Proof.Ideal.Out.lean ====
/-
  The kernel's three results over the extended reals, for a row sorted by `col`.
-/
module

public import proofs.«01_k».proof.Proof.Ideal.Fold
public import proofs.«01_k».proof.Proof.Ideal.Vals
public import proofs.«01_k».proof.Proof.Math.Row

@[expose] public section

noncomputable section

namespace Cert.KernelIdeal.Hand

open Idealize Idealize.ShloMosaic
open Cert.KernelIdeal Cert.KernelIdeal.Gen

theorem pos_inf : Ideal.ofBits .f32 0x7F800000#32 = (⊤ : EReal) := by simp [Ideal.ofBits, Ideal.ieee]

theorem log_real {a : ℝ} (h : 0 < a) : Ideal.log ((a : ℝ) : EReal) = ((Real.log a : ℝ) : EReal) := if_neg (not_le.2 h)

theorem pay825_apply (v : FVec Ideal S8x128 .f32) (r : Fin 8) (k : Fin 50) : k0_pay825 (F := Ideal) v (ix2 r k) = v (ix2 r ⟨k.val, by omega⟩) := by
  unfold k0_pay825
  pointwise

theorem pay826_apply (r : Fin 8) (k : Fin 50) : k0_pay826 (F := Ideal) (ix2 r k) = ((k.val : ℝ) : EReal) := by
  have e : ∀ w : BitVec 32, FloatOps.sitofp (F := Ideal) FTy.f32 w = ((w.toInt : ℝ) : EReal) := fun _ => rfl
  unfold k0_pay826
  pointwise
  rw [e, toInt_small _ (by omega)]; simp

theorem pay828_apply (v : Vec Ideal S8x1 .f32) (r : Fin 8) (k : Fin 50) : k0_pay828 (F := Ideal) v (ix2 r k) = v (ix2 r 0) := by
  unfold k0_pay828
  pointwise

theorem pay827_apply (v47 mx z : Vec Ideal S8x1 .f32) (v : FVec Ideal S8x128 .f32) (r : Fin 8) (k : Fin 50) :
    k0_pay827 (F := Ideal) v47 mx z v (ix2 r k)
      = BitVec.ofBool (decide ((∑ a : Fin 50, Ideal.div (Ideal.exp ((v (ix2 r ⟨a.val, by omega⟩) : EReal) - mx (ix2 r 0))) (z (ix2 r 0)) * (if a.val < k.val then 1 else 0)) ≤ (v47 (ix2 r 0) : EReal))) := by
  have e : ∀ w : BitVec 32, FloatOps.sitofp (F := Ideal) FTy.f32 w = ((w.toInt : ℝ) : EReal) := fun _ => rfl
  unfold k0_pay827
  pointwise
  have hs : ∀ a : Fin 50, FloatOps.sitofp (F := Ideal) FTy.f32 (BitVec.setWidth 32 (IntOp.cmpi CmpIPredicate.slt (BitVec.ofNat 32 a.val) (BitVec.ofNat 32 k.val)))
      = (if a.val < k.val then (1 : EReal) else 0) := fun a => by
    have ha := a.isLt
    have hk := k.isLt
    show FloatOps.sitofp (F := Ideal) FTy.f32 (BitVec.setWidth 32 (BitVec.ofBool ((BitVec.ofNat 32 a.val).slt (BitVec.ofNat 32 k.val)))) = _
    rw [slt_small _ _ (by omega) (by omega), e]
    split_ifs with h
    · rw [decide_eq_true h]; simp
    · rw [decide_eq_false h]; simp
  simp only [hs, pay825_apply]

theorem pay8_apply (v51 : Vec Ideal S8x1 .f32) (v67 v80 : FVec Ideal S8x50 .f32) (v82 : IVec S8x50 1) (v83 : FVec Ideal S8x50 .f32) (v99 : Vec Ideal S8x32256 .f32)
    (K : Fin 50 → Prop) [DecidablePred K] (r : Fin 8) (hK : ∀ k, andi v82 (cmpf .olt v80 v83) (ix2 r k) = BitVec.ofBool (decide (K k))) (j : Fin 32004) :
    k0_pay8 (F := Ideal) v51 v67 v80 v82 v83 v99 (ix2 r j)
      = if (Finset.univ.inf fun k : Fin 50 => if K k then (v67 (ix2 r k) : EReal) else ⊤) ≤ v99 (ix2 r ⟨j.val, by omega⟩)
        then (v99 (ix2 r ⟨j.val, by omega⟩) : EReal) - (v51 (ix2 r 0) + Ideal.log (∑ k : Fin 50, if K k then Ideal.exp ((v67 (ix2 r k) : EReal) - v51 (ix2 r 0)) else 0))
        else ⊥ - ((v51 (ix2 r 0) : EReal) + Ideal.log (∑ k : Fin 50, if K k then Ideal.exp ((v67 (ix2 r k) : EReal) - v51 (ix2 r 0)) else 0)) := by
  unfold k0_pay8
  dsimp only
  generalize andi v82 (cmpf .olt v80 v83) = b at hK ⊢
  have hsel : ∀ (k : Fin 50) (p q : EReal), Scalar.select (b (ix2 r k)) p q = if K k then p else q := fun k p q => by
    rw [hK]
    split_ifs with h
    · rw [decide_eq_true h]; rfl
    · rw [decide_eq_false h]; rfl
  pointwise
  simp only [hsel, named_cut, named_dropped, pos_inf]
  rfl

/-- The places the kernel keeps are the row's. -/
theorem keep_apply (v47 v49 mx z : Vec Ideal S8x1 .f32) (v : FVec Ideal S8x128 .f32) (r : Fin 8) (k : Fin 50) {x : ℕ → EReal} {col inv : ℕ → ℕ} {P : EReal} {T : ℤ}
    (h : Cert.Row.Sorted x col inv) (hP : v47 (ix2 r 0) = P) (hT : v49 (ix2 r 0) = (((T : ℤ) : ℝ) : EReal)) (hm : mx (ix2 r 0) = x (col 0))
    (hz : z (ix2 r 0) = ((Cert.Row.Z x col : ℝ) : EReal)) (hv : ∀ a : Fin 128, a.val < 50 → v (ix2 r a) = x (col a.val)) [Decidable (Cert.Row.Keep x col P T k.val)] :
    andi (k0_pay827 (F := Ideal) v47 mx z v) (cmpf .olt (k0_pay826 (F := Ideal)) (k0_pay828 (F := Ideal) v49)) (ix2 r k) = BitVec.ofBool (decide (Cert.Row.Keep x col P T k.val)) := by
  have hk := k.isLt
  have hc : (∑ a : Fin 50, Ideal.div (Ideal.exp ((v (ix2 r ⟨a.val, by omega⟩) : EReal) - mx (ix2 r 0))) (z (ix2 r 0)) * (if a.val < k.val then 1 else 0))
      = ((Cert.Row.cum x col k.val : ℝ) : EReal) := by
    have hterm : ∀ a : Fin 50, Ideal.div (Ideal.exp ((v (ix2 r ⟨a.val, by omega⟩) : EReal) - mx (ix2 r 0))) (z (ix2 r 0)) * (if a.val < k.val then 1 else 0)
        = ((if a.val < k.val then Cert.Row.prob x col a.val else 0 : ℝ) : EReal) := fun a => by
      rw [hv _ a.isLt, hm, hz, ← h.M_eq, Cert.Soft.exp_sub (h.ne_top _)]
      unfold Ideal.div
      rw [if_neg (by rw [← EReal.coe_zero]; exact fun e => h.Z_pos.ne' (EReal.coe_injective e))]
      split_ifs
      · rw [mul_one, ← EReal.coe_inv, ← EReal.coe_mul]; rfl
      · rw [mul_zero]; rfl
    rw [Finset.sum_congr rfl fun a _ => hterm a, ← Cert.Soft.coe_sum, Fin.sum_univ_eq_sum_range (fun a => if a < k.val then Cert.Row.prob x col a else 0) 50]
    congr 1
    unfold Cert.Row.cum
    rw [← Finset.sum_filter]
    exact Finset.sum_congr (by ext a; simp; omega) fun _ _ => rfl
  show IntOp.andi (k0_pay827 (F := Ideal) v47 mx z v (ix2 r k)) (BitVec.ofBool (decide ((k0_pay826 (F := Ideal) (ix2 r k) : EReal) < k0_pay828 (F := Ideal) v49 (ix2 r k)))) = _
  rw [pay827_apply, hc, hP, pay826_apply, pay828_apply, hT]
  have e : (((k.val : ℝ) : EReal) < ((T : ℝ) : EReal)) ↔ (k.val : ℤ) < T := by
    rw [EReal.coe_lt_coe_iff]; exact_mod_cast Iff.rfl
  by_cases h1 : (k.val : ℤ) < T <;> by_cases h2 : ((Cert.Row.cum x col k.val : ℝ) : EReal) ≤ P
  · rw [decide_eq_true h2, decide_eq_true (e.2 h1), decide_eq_true (show Cert.Row.Keep x col P T k.val from ⟨h1, h2⟩)]; rfl
  · rw [decide_eq_false h2, decide_eq_true (e.2 h1), decide_eq_false (show ¬Cert.Row.Keep x col P T k.val from fun hh => h2 hh.2)]; rfl
  · rw [decide_eq_true h2, decide_eq_false (fun hh => h1 (e.1 hh)), decide_eq_false (show ¬Cert.Row.Keep x col P T k.val from fun hh => h1 hh.1)]; rfl
  · rw [decide_eq_false h2, decide_eq_false (fun hh => h1 (e.1 hh)), decide_eq_false (show ¬Cert.Row.Keep x col P T k.val from fun hh => h1 hh.1)]; rfl

theorem outLp_apply (d4 : Vec Ideal S8x128 .f32) (y : Vec Ideal S8x32256 .f32) (mx z : Vec Ideal S8x1 .f32) (r : Fin 8) {x : ℕ → EReal} {col inv : ℕ → ℕ} {P : EReal} {T : ℤ}
    (h : Cert.Row.Sorted x col inv) (hP : d4 (ix2 r 1) = P) (hT : d4 (ix2 r 2) = (((T : ℤ) : ℝ) : EReal)) (hy : ∀ j : Fin 32256, y (ix2 r j) = x j.val)
    (hm : mx (ix2 r 0) = x (col 0)) (hz : z (ix2 r 0) = ((Cert.Row.Z x col : ℝ) : EReal)) (hP0 : 0 ≤ P) (hT1 : 1 ≤ T) (hT50 : T ≤ 50) (j : Fin 32004) :
    outLp d4 y mx z (ix2 r j) = Cert.Row.out x col inv P T j.val := by
  classical
  unfold outLp
  have hv := fun a ha => vals_apply y mx r x col hy h.top hm a ha
  rw [pay8_apply _ _ _ _ _ _ (fun k => Cert.Row.Keep x col P T k.val) r (fun k => keep_apply _ _ mx z (vals y mx) r k h
    ((Track.col_apply d4 1 (by omega) r).trans hP) ((Track.col_apply d4 2 (by omega) r).trans hT) hm hz hv)]
  have e1 : ∀ k : Fin 50, k0_pay825 (F := Ideal) (vals y mx) (ix2 r k) = x (col k.val) := fun k => by rw [pay825_apply]; exact hv _ k.isLt
  simp only [e1, hm, hy]
  have hS : (∑ k : Fin 50, if Cert.Row.Keep x col P T k.val then Ideal.exp (x (col k.val) - x (col 0)) else 0) = ((Cert.Row.S x col P T : ℝ) : EReal) := by
    have ht : ∀ k : Fin 50, (if Cert.Row.Keep x col P T k.val then Ideal.exp (x (col k.val) - x (col 0)) else 0)
        = ((if Cert.Row.Keep x col P T k.val then Cert.Soft.rexp (x (col k.val)) (Cert.Row.M x col) else 0 : ℝ) : EReal) := fun k => by
      split_ifs
      · rw [← h.M_eq, Cert.Soft.exp_sub (h.ne_top _)]
      · rfl
    rw [Finset.sum_congr rfl fun k _ => ht k, ← Cert.Soft.coe_sum, Fin.sum_univ_eq_sum_range (fun k => if Cert.Row.Keep x col P T k then Cert.Soft.rexp (x (col k)) (Cert.Row.M x col) else 0) 50,
      Cert.Row.Sorted.S_fifty hT50]
  rw [hS, ← h.M_eq]
  have hl : Ideal.log ((Cert.Row.S x col P T : ℝ) : EReal) = ((Real.log (Cert.Row.S x col P T) : ℝ) : EReal) := log_real (h.S_pos hP0 hT1)
  rw [hl, ← EReal.coe_add]
  unfold Cert.Row.out Cert.Row.masked
  by_cases hK : Cert.Row.Keep x col P T (inv j.val)
  · rw [if_pos hK, if_pos ((h.cut hP0 hT1 hT50 j.val j.isLt).2 hK)]
  · rw [if_neg hK, if_neg fun hc => hK ((h.cut hP0 hT1 hT50 j.val j.isLt).1 hc)]

theorem fptosi_nat (n : ℕ) (h : n < 2 ^ 31) : Ideal.fptosi 32 (((n : ℝ)) : EReal) = BitVec.ofNat 32 n := by
  unfold Ideal.fptosi
  rw [Ideal.toIntClamped_coe, if_pos (Nat.cast_nonneg n), Int.floor_natCast]
  rw [show max (-(((2 ^ (32 - 1) : ℕ) : ℤ))) (min (((2 ^ (32 - 1) : ℕ) : ℤ) - 1) (n : ℤ)) = (n : ℤ) by
    norm_num; omega]
  exact BitVec.ofInt_natCast 32 n

namespace Track
open Idealize.ShloMosaic.Pipeline

variable (m : (ℓ : Loc nD τ sig) → Buf (Elt Ideal) ℓ)

/-- What the precondition gives of row `r`. -/
structure RowOk (c : Dev nD) (r : Fin 8) (col inv : ℕ → ℕ) : Prop where
  sorted : Cert.Row.Sorted (X m c r) col inv
  top_p : 0 ≤ (aP m c (ix1 r) : EReal)
  one_le : 1 ≤ (aK m c ix0 : BitVec 32).toInt
  le_fifty : (aK m c ix0 : BitVec 32).toInt ≤ 50

theorem rank_apply (c : Dev nD) (r : Fin 8) : rank m c (ix2 r 0) = logit m c r ⟨32255, by omega⟩ := by
  unfold rank outRank k0_pay821
  have h := logit_blk m c 41 (by omega) r ⟨767, by omega⟩
  pointwise
  exact h

variable {m} {c : Dev nD} {r : Fin 8} {col inv : ℕ → ℕ}

theorem RowOk.last (h : RowOk m c r col inv) :
    accM m c 41 (ix2 r 0) = X m c r (col 0) ∧ accZ m c 41 (ix2 r 0) = ((Cert.Row.Z (X m c r) col : ℝ) : EReal)
      ∧ accI m c 41 (ix2 r 0) = (((col 0 : ℕ) : ℝ) : EReal) := by
  have a := acc_run m c r h.sorted.ne_top h.sorted.ne_bot 41 (by omega)
  have hc0 := h.sorted.col_lt 0 (by omega)
  have hM : accM m c 41 (ix2 r 0) = X m c r (col 0) := by
    obtain ⟨j, hj, e, -⟩ := a.at_
    refine le_antisymm ?_ (a.le (col 0) (Finset.mem_range.2 (by omega)))
    rw [← e]
    exact h.sorted.top.first j (by rw [Finset.mem_range] at hj; omega)
  refine ⟨hM, ?_, ?_⟩
  · rw [a.sum, hM]
    exact congrArg _ h.sorted.Z_padded
  · obtain ⟨j, hj, e, e'⟩ := a.at_
    rw [e', h.sorted.top.only 0 (by omega) j (by rw [Finset.mem_range] at hj; omega) (e.trans hM)]

theorem RowOk.tok (h : RowOk m c r col inv) : Track.tok m c (ix2 r 0) = BitVec.ofNat 32 (col 0) := by
  have hc0 := h.sorted.col_lt 0 (by omega)
  show Ideal.fptosi 32 (accI m c 41 (ix2 r 0)) = _
  rw [h.last.2.2, fptosi_nat _ (by omega)]

theorem RowOk.lp (h : RowOk m c r col inv) (j : Fin 32004) :
    Track.lp m c (ix2 r j) = Cert.Row.out (X m c r) col inv (aP m c (ix1 r)) (aK m c ix0 : BitVec 32).toInt j.val :=
  outLp_apply _ _ _ _ r h.sorted ((blk3 m c 41 r 1).trans (par1_at m c r)) ((blk3 m c 41 r 2).trans (par2_at m c r)) (rowsV_apply m c r)
    h.last.1 h.last.2.1 h.top_p h.one_le h.le_fifty j

end Track

end Cert.KernelIdeal.Hand
-- ==== Proof.Reference.Ops.lean ====
/-
  The reference's operations read at an index over the extended reals: a gather along the rows, a running sum along the
  rows, the wrapping and the bounds test of a row's indices, and the comparators.
-/
module

public import proofs.«01_k».proof.Proof.Gen.ReferenceIdeal
public import proofs.«01_k».proof.Proof.Math.Run
public import Idealize.ShloMosaic.Lib.Pointwise
public import Idealize.ShloMosaic.Lib.ReduceAll
public import Idealize.ShloMosaic.Lib.SortFacts
public import Idealize.ShloMosaic.PureOps.IdealRules
public import Idealize.ShloMosaic.PureOps.Ideal.Laws

@[expose] public section
noncomputable section

namespace Cert.ReferenceIdeal.Hand

open Idealize Idealize.ShloMosaic
open Cert.ReferenceIdeal Cert.ReferenceIdeal.Gen
open scoped BigOperators

theorem toInt_small (n : ℕ) (h : n < 2 ^ 31) : (BitVec.ofNat 32 n).toInt = n := by
  rw [BitVec.toInt_ofNat', Int.bmod_eq_of_le] <;> omega

/-- A gather along the rows, at an index in range. -/
theorem gather_at (x : FVec Ideal S8x32004 .f32) (i : IVec S8x32004x1 32) (r : Fin 8) (k n : Fin 32004) (hi : i (ix3 r k 0) = BitVec.ofNat 32 n.val) :
    Host.gather gather_S8x32004_S8x32004x1_S8x32004_n_1_0_0_1_2_11 x i (ix2 r k) = x (ix2 r n) := by
  unfold Host.gather
  congr 1
  have hn := n.isLt
  funext a
  fin_cases a
  · exact Fin.ext (by show 0 + r.val + 0 = r.val; omega)
  · refine Fin.ext ?_
    show min (i _).toInt.toNat 32003 + 0 + 0 = n.val
    have e : (GatherDims.siIdx gather_S8x32004_S8x32004x1_S8x32004_n_1_0_0_1_2_11 (ix2 r k) ⟨0, by decide⟩) = ix3 r k 0 := by
      funext b; fin_cases b <;> rfl
    have e' : i (GatherDims.siIdx gather_S8x32004_S8x32004x1_S8x32004_n_1_0_0_1_2_11 (ix2 r k) ⟨0, by decide⟩) = BitVec.ofNat 32 n.val := by rw [e, hi]
    refine (congrArg (fun w : BitVec 32 => min w.toInt.toNat 32003 + 0 + 0) e').trans ?_
    rw [toInt_small _ (by omega)]; simp; omega

theorem foldl_add {ι : Type} (f : ι → EReal) (l : List ι) (v : EReal) : l.foldl (fun r n => r + f n) v = v + (l.map f).sum := by
  induction l generalizing v with
  | nil => simp
  | cons a l ih => rw [List.foldl_cons, ih, List.map_cons, List.sum_cons, add_assoc]

set_option maxRecDepth 100000 in
/-- A running sum along the rows. -/
theorem window_at (x : FVec Ideal S8x32004 .f32) (f : ℕ → ℝ) (r : Fin 8) (k : Fin 32004) (hx : ∀ a : Fin 32004, x (ix2 r a) = ((f a.val : ℝ) : EReal)) :
    Host.reduceWindowAdd ![1, 32004] ![1, 1] ![0, 32003] ![0, 0] x (broadcastInDim S_ ![] bcast_S_S_ (constant S_ .f32 0x00000000#32)) reduceWindows_S8x32004_S8x32004_w1s1p0_0_w32004s1p32003_0 h_S_ (ix2 r k)
      = ((∑ a ∈ Finset.range (k.val + 1), f a : ℝ) : EReal) := by
  have hk := k.isLt
  unfold Host.reduceWindowAdd
  rw [Ideal.hostReduceWindowAdd_def]
  have h0 : (broadcastInDim S_ ![] bcast_S_S_ (constant (F := Ideal) S_ .f32 0x00000000#32)) (Shape.Idx.first h_S_) = (0 : EReal) := by
    show Ideal.ofBits .f32 0x00000000#32 = 0
    simp [Ideal.ofBits, Ideal.ieee]
  rw [h0]
  unfold Ideal.hostReduceWindowAdd Host.reduceWindow
  dsimp only
  rw [foldl_add, zero_add, ← List.ofFn_eq_map, List.sum_ofFn]
  refine Eq.trans (Finset.sum_congr rfl fun n _ => ?_) ((Equiv.sum_comp (Shape.rowMajor (⟨2, ![1, 32004]⟩ : Shape)).symm
    (fun w : (⟨2, ![1, 32004]⟩ : Shape).Idx => ((if 32003 ≤ k.val + (w 1).val then f (k.val + (w 1).val - 32003) else 0 : ℝ) : EReal))).trans ?_)
  · have w0 : (((Shape.rowMajor (⟨2, ![1, 32004]⟩ : Shape)).symm n : (⟨2, ![1, 32004]⟩ : Shape).Idx) 0).val < 1 := (((Shape.rowMajor (⟨2, ![1, 32004]⟩ : Shape)).symm n : (⟨2, ![1, 32004]⟩ : Shape).Idx) 0).isLt
    have w1 : (((Shape.rowMajor (⟨2, ![1, 32004]⟩ : Shape)).symm n : (⟨2, ![1, 32004]⟩ : Shape).Idx) 1).val < 32004 := (((Shape.rowMajor (⟨2, ![1, 32004]⟩ : Shape)).symm n : (⟨2, ![1, 32004]⟩ : Shape).Idx) 1).isLt
    have hr := r.isLt
    by_cases h : 32003 ≤ k.val + (((Shape.rowMajor (⟨2, ![1, 32004]⟩ : Shape)).symm n : (⟨2, ![1, 32004]⟩ : Shape).Idx) 1).val
    · rw [dif_pos, if_pos h, ← hx ⟨k.val + (((Shape.rowMajor (⟨2, ![1, 32004]⟩ : Shape)).symm n : (⟨2, ![1, 32004]⟩ : Shape).Idx) 1).val - 32003, by omega⟩]
      · congr 1
        funext a
        fin_cases a
        · exact Fin.ext (by show r.val * 1 + (((Shape.rowMajor (⟨2, ![1, 32004]⟩ : Shape)).symm n : (⟨2, ![1, 32004]⟩ : Shape).Idx) 0).val - 0 = r.val; omega)
        · exact Fin.ext (by show k.val * 1 + (((Shape.rowMajor (⟨2, ![1, 32004]⟩ : Shape)).symm n : (⟨2, ![1, 32004]⟩ : Shape).Idx) 1).val - 32003 = k.val + (((Shape.rowMajor (⟨2, ![1, 32004]⟩ : Shape)).symm n : (⟨2, ![1, 32004]⟩ : Shape).Idx) 1).val - 32003; omega)
      · intro a
        fin_cases a
        · show 0 ≤ r.val * 1 + (((Shape.rowMajor (⟨2, ![1, 32004]⟩ : Shape)).symm n : (⟨2, ![1, 32004]⟩ : Shape).Idx) 0).val ∧ r.val * 1 + (((Shape.rowMajor (⟨2, ![1, 32004]⟩ : Shape)).symm n : (⟨2, ![1, 32004]⟩ : Shape).Idx) 0).val - 0 < 8; omega
        · show 32003 ≤ k.val * 1 + (((Shape.rowMajor (⟨2, ![1, 32004]⟩ : Shape)).symm n : (⟨2, ![1, 32004]⟩ : Shape).Idx) 1).val ∧ k.val * 1 + (((Shape.rowMajor (⟨2, ![1, 32004]⟩ : Shape)).symm n : (⟨2, ![1, 32004]⟩ : Shape).Idx) 1).val - 32003 < 32004; omega
    · rw [dif_neg, if_neg h]
      · rfl
      · intro hin
        have : 32003 ≤ k.val * 1 + (((Shape.rowMajor (⟨2, ![1, 32004]⟩ : Shape)).symm n : (⟨2, ![1, 32004]⟩ : Shape).Idx) 1).val := (hin 1).1
        omega
  rw [← Cert.Soft.coe_sum]
  congr 1
  rw [← Finset.sum_filter]
  refine Finset.sum_bij' (fun w _ => k.val + (w 1).val - 32003) (fun a ha => ix2 0 ⟨a + 32003 - k.val, by rw [Finset.mem_range] at ha; omega⟩) ?_ ?_ ?_ ?_ ?_
  · intro w hw
    have w1 : (w 1).val < 32004 := (w 1).isLt
    rw [Finset.mem_filter] at hw; rw [Finset.mem_range]; have := hw.2; omega
  · intro a ha
    rw [Finset.mem_range] at ha; rw [Finset.mem_filter]
    refine ⟨Finset.mem_univ _, ?_⟩
    show 32003 ≤ k.val + (a + 32003 - k.val); omega
  · intro w hw
    have w0 : (w 0).val < 1 := (w 0).isLt
    rw [Finset.mem_filter] at hw
    have := hw.2
    funext a
    fin_cases a
    · exact Fin.ext (by show 0 = (w 0).val; omega)
    · exact Fin.ext (by show k.val + (w 1).val - 32003 + 32003 - k.val = (w 1).val; omega)
  · intro a ha
    rw [Finset.mem_range] at ha
    show k.val + (a + 32003 - k.val) - 32003 = a; omega
  · intro w hw; rfl

theorem cmp_key (p q : EReal × BitVec 32) : comparator_f32_i32_d1 (F := Ideal) p q = BitVec.ofBool (decide (p.1 < q.1)) := by
  have z : FloatOps.ofBits (F := Ideal) .f32 0x00000000#32 = (0 : EReal) := by
    show Ideal.ofBits .f32 0x00000000#32 = 0
    simp [Ideal.ofBits, Ideal.ieee]
  have e : ∀ a : EReal, Scalar.select (FloatOps.cmpf (F := Ideal) (φ := .f32) .oeq a 0) (0 : EReal) a = a := fun a => by
    show Scalar.select (BitVec.ofBool (decide (a = 0))) (0 : EReal) a = a
    by_cases h : a = 0
    · rw [decide_eq_true h, h]; rfl
    · rw [decide_eq_false h]; rfl
  have u : ∀ a b : EReal, Scalar.select (FloatOps.cmpf (F := Ideal) (φ := .f32) .une a a) b a = a := fun a b => by
    show Scalar.select (BitVec.ofBool (decide (a ≠ a))) b a = a
    rw [decide_eq_false (fun h => h rfl)]; rfl
  have u' : ∀ a b c : EReal, Scalar.select (FloatOps.cmpf (F := Ideal) (φ := .f32) .une a a) b c = c := fun a b c => by
    show Scalar.select (BitVec.ofBool (decide (a ≠ a))) b c = c
    rw [decide_eq_false (fun h => h rfl)]; rfl
  unfold comparator_f32_i32_d1
  dsimp only
  rw [z, u', u', e, e]
  rfl

end Cert.ReferenceIdeal.Hand
-- ==== Proof.Reference.Rows.lean ====
/-
  The reference's composed operations read at an index over the extended reals: a take along the rows, the shift by the row's
  maximum, a row's sum and a row's quotient.
-/
module

public import proofs.«01_k».proof.Proof.Reference.Run
public import proofs.«01_k».proof.Proof.Reference.Ops

@[expose] public section
noncomputable section

namespace Cert.ReferenceIdeal.Hand

open Idealize Idealize.ShloMosaic
open Cert.ReferenceIdeal Cert.ReferenceIdeal.Gen
open scoped BigOperators

/-- The places of a take, a negative one counted from the row's end. -/
abbrev wrap (v : IVec S8x32004 32) : IVec S8x32004x1 32 :=
  shapeCast _ (select (cmpi .slt v (broadcastInDim S8x32004 ![] bcast_S_S8x32004 (constantI S_ 32 0#32))) (addi v (broadcastInDim S8x32004 ![] bcast_S_S8x32004 (constantI S_ 32 32004#32))) v) shapeCasts_S8x32004_S8x32004x1

/-- A take along the rows. -/
abbrev take (y : FVec Ideal S8x32004 .f32) (i : IVec S8x32004x1 32) : FVec Ideal S8x32004 .f32 :=
  select (Host.reduce IntOp.andi (andi (cmpi .sge i (broadcastInDim S8x32004x1 ![] bcast_S_S8x32004x1 (constantI S_ 32 0#32))) (cmpi .sle i (broadcastInDim S8x32004x1 ![0, 1, 2] bcast_S1x1x1_S8x32004x1_0_1_2 (broadcastInDim S1x1x1 ![2] bcast_S1_S1x1x1_2 (constantI S1 32 32003#32))))) (constantI S_ 1 1#1) reducesTo_S8x32004x1_S8x32004_d2 h_S_) (Host.gather gather_S8x32004_S8x32004x1_S8x32004_n_1_0_0_1_2_11 y i) (broadcastInDim S8x32004 ![] bcast_S_S8x32004 (constant S_ .f32 0x7FC00000#32))

/-- A small number is in bounds as a signed word. -/
theorem small_bounds (n : ℕ) (h : n < 32004) : IntOp.cmpi .slt (BitVec.ofNat 32 n) 0#32 = 0#1 ∧ IntOp.cmpi .sge (BitVec.ofNat 32 n) 0#32 = 1#1 ∧ IntOp.cmpi .sle (BitVec.ofNat 32 n) 32003#32 = 1#1 := by
  have e := toInt_small n (by omega)
  refine ⟨?_, ?_, ?_⟩
  · show BitVec.ofBool (BitVec.slt _ _) = _
    rw [BitVec.slt, e, decide_eq_false (by simp)]; rfl
  · show BitVec.ofBool (BitVec.sle _ _) = _
    rw [BitVec.sle, e, decide_eq_true (by simp)]; rfl
  · show BitVec.ofBool (BitVec.sle _ _) = _
    rw [BitVec.sle, e, decide_eq_true (by show (n : ℤ) ≤ 32003; omega)]; rfl

theorem wrap_at (v : IVec S8x32004 32) (r : Fin 8) (k : Fin 32004) (n : ℕ) (hn : n < 32004) (hv : v (ix2 r k) = BitVec.ofNat 32 n) : wrap v (ix3 r k 0) = BitVec.ofNat 32 n := by
  unfold wrap
  pointwise
  rw [hv, (small_bounds n hn).1]
  rfl

theorem take_at (y : FVec Ideal S8x32004 .f32) (i : IVec S8x32004x1 32) (r : Fin 8) (k n : Fin 32004) (hi : i (ix3 r k 0) = BitVec.ofNat 32 n.val) :
    take y i (ix2 r k) = y (ix2 r n) := by
  have hg := gather_at y i r k n hi
  unfold take
  generalize Host.gather gather_S8x32004_S8x32004x1_S8x32004_n_1_0_0_1_2_11 y i = g at hg ⊢
  pointwise
  rw [Finset.fold_congr (g := fun _ => 1#1) (fun x _ => by
    obtain rfl := Subsingleton.elim x 0
    rw [hi, (small_bounds n.val n.isLt).2.1, (small_bounds n.val n.isLt).2.2]; rfl)]
  exact hg

theorem bot_word : Ideal.ofBits FTy.f32 0xFF800000#32 = ⊥ := by simp [Ideal.ofBits, Ideal.ieee]

/-- Subtracting the row's maximum. -/
abbrev shift (x : FVec Ideal S8x32004 .f32) : FVec Ideal S8x32004 .f32 :=
  subf x (broadcastInDim S8x32004 ![0, 1] bcast_S8x1_S8x32004_0_1 (broadcastInDim S8x1 ![0] bcast_S8_S8x1_0 (maximumf (broadcastInDim S8 ![] bcast_S_S8 (constant S_ .f32 0xFF800000#32)) (Host.reduce FloatOps.maximumf x (constant S_ .f32 0xFF800000#32) reducesTo_S8x32004_S8_d1 h_S_))))

theorem shift_at (x : FVec Ideal S8x32004 .f32) (r : Fin 8) (M : EReal) (n : Fin 32004) (hn : x (ix2 r n) = M) (hM : ∀ j, (x (ix2 r j) : EReal) ≤ M) (j : Fin 32004) :
    shift x (ix2 r j) = (x (ix2 r j) : EReal) - M := by
  unfold shift
  pointwise
  have e : Finset.fold max (Ideal.ofBits FTy.f32 0xFF800000#32) (fun a => (x (ix2 r a) : EReal)) Finset.univ = M := by
    rw [bot_word]
    show Finset.sup Finset.univ (fun a => (x (ix2 r a) : EReal)) = M
    exact le_antisymm (Finset.sup_le fun a _ => hM a) (hn ▸ Finset.le_sup (f := fun a => (x (ix2 r a) : EReal)) (Finset.mem_univ n))
  rw [e, bot_word, max_eq_right bot_le]

/-- A row's sum. -/
abbrev total (y : FVec Ideal S8x32004 .f32) : FVec Ideal S8 .f32 := Host.reduceAdd y (constant S_ .f32 0x00000000#32) reducesTo_S8x32004_S8_d1 h_S_

theorem total_at (y : FVec Ideal S8x32004 .f32) (r : Fin 8) (f : ℕ → ℝ) (hy : ∀ j, (y (ix2 r j) : EReal) = (f j.val : ℝ)) :
    total y (ix1 r) = ((∑ j ∈ Finset.range 32004, f j : ℝ) : EReal) := by
  unfold total
  pointwise
  rw [Cert.Soft.coe_sum, Finset.sum_range]
  exact Finset.sum_congr rfl fun j _ => hy j

/-- A row over a column. -/
abbrev over (y : FVec Ideal S8x32004 .f32) (z : FVec Ideal S8 .f32) : FVec Ideal S8x32004 .f32 :=
  Host.divf y (broadcastInDim S8x32004 ![0, 1] bcast_S8x1_S8x32004_0_1 (broadcastInDim S8x1 ![0] bcast_S8_S8x1_0 z))

theorem over_at (y : FVec Ideal S8x32004 .f32) (z : FVec Ideal S8 .f32) (r : Fin 8) (j : Fin 32004) (a b : ℝ) (hb : 0 < b) (hy : (y (ix2 r j) : EReal) = a) (hz : (z (ix1 r) : EReal) = b) :
    over y z (ix2 r j) = ((a / b : ℝ) : EReal) := by
  unfold over
  pointwise
  rw [hy, hz]
  show (if ((b : ℝ) : EReal) = 0 then _ else _) = _
  rw [if_neg (by exact_mod_cast hb.ne'), ← EReal.coe_inv, ← EReal.coe_mul]
  rfl

end Cert.ReferenceIdeal.Hand
-- ==== Proof.Reference.Argmax.lean ====
/-
  The reference's arg-max over a row whose maximum is met once.
-/
module

public import proofs.«01_k».proof.Proof.Reference.Ops

@[expose] public section
noncomputable section

namespace Cert.ReferenceIdeal.Hand

open Idealize Idealize.ShloMosaic
open Cert.ReferenceIdeal Cert.ReferenceIdeal.Gen

/-- One step of the arg-max: the larger value with its index; of the greatest pair nothing is lost. -/
theorem argmax_step (A : EReal) (i : BitVec 32) (p e : EReal × BitVec 32) (hp : p.1 < A ∨ p = (A, i)) (he : e.1 < A ∨ e = (A, i)) :
    ((reducer_argmax_f32_i32 (F := Ideal) p e).1 < A ∨ reducer_argmax_f32_i32 (F := Ideal) p e = (A, i))
      ∧ (p = (A, i) ∨ e = (A, i) → reducer_argmax_f32_i32 (F := Ideal) p e = (A, i)) := by
  obtain ⟨p1, p2⟩ := p
  obtain ⟨e1, e2⟩ := e
  have h : reducer_argmax_f32_i32 (F := Ideal) (p1, p2) (e1, e2)
      = (if e1 < p1 then p1 else e1, if e1 < p1 ∨ (p1 = e1 ∧ p2.slt e2 = true) then p2 else e2) := by
    show (Scalar.select (IntOp.ori (BitVec.ofBool (decide (p1 > e1))) (BitVec.ofBool (decide (p1 ≠ p1)))) p1 e1,
      Scalar.select (IntOp.ori (IntOp.ori (BitVec.ofBool (decide (p1 > e1))) (BitVec.ofBool (decide (p1 ≠ p1))))
        (IntOp.andi (BitVec.ofBool (decide (p1 = e1))) (BitVec.ofBool (p2.slt e2)))) p2 e2) = _
    rw [decide_eq_false (p := p1 ≠ p1) (fun h => h rfl)]
    by_cases h1 : e1 < p1
    · rw [if_pos h1, if_pos (Or.inl h1), decide_eq_true (p := p1 > e1) h1]
      cases decide (p1 = e1) <;> cases p2.slt e2 <;> rfl
    · rw [if_neg h1, decide_eq_false (p := p1 > e1) h1]
      by_cases h2 : p1 = e1
      · rw [decide_eq_true h2]
        cases h3 : p2.slt e2
        · rw [if_neg (by simp [h1])]; rfl
        · rw [if_pos (by simp [h2])]; rfl
      · rw [decide_eq_false h2, if_neg (by simp [h1, h2])]
        cases p2.slt e2 <;> rfl
  rw [h]
  rcases hp with hp | hp <;> rcases he with he | he
  · refine ⟨Or.inl (by dsimp only at hp he ⊢; split_ifs <;> assumption), fun h => ?_⟩
    rcases h with h | h
    · exact absurd (congrArg Prod.fst h) hp.ne
    · exact absurd (congrArg Prod.fst h) he.ne
  · obtain ⟨rfl, rfl⟩ := Prod.mk.inj he
    have e : (if e1 < p1 then p1 else e1, if e1 < p1 ∨ (p1 = e1 ∧ p2.slt e2 = true) then p2 else e2) = (e1, e2) := by
      rw [if_neg (not_lt.2 hp.le), if_neg (by rintro (h | h); exacts [absurd h (not_lt.2 hp.le), absurd h.1 hp.ne])]
    exact ⟨Or.inr e, fun _ => e⟩
  · obtain ⟨rfl, rfl⟩ := Prod.mk.inj hp
    have e : (if e1 < p1 then p1 else e1, if e1 < p1 ∨ (p1 = e1 ∧ p2.slt e2 = true) then p2 else e2) = (p1, p2) := by
      rw [if_pos he, if_pos (Or.inl he)]
    exact ⟨Or.inr e, fun _ => e⟩
  · obtain ⟨rfl, rfl⟩ := Prod.mk.inj hp
    obtain ⟨rfl, rfl⟩ := Prod.mk.inj he
    have e : (if e1 < e1 then e1 else e1, if e1 < e1 ∨ (e1 = e1 ∧ e2.slt e2 = true) then e2 else e2) = (e1, e2) := by
      split_ifs <;> rfl
    exact ⟨Or.inr e, fun _ => e⟩

theorem argmax_fold (A : EReal) (i : BitVec 32) (l : List (EReal × BitVec 32)) (hl : ∀ e ∈ l, e.1 < A ∨ e = (A, i)) (p : EReal × BitVec 32)
    (hp : p.1 < A ∨ p = (A, i)) (h : p = (A, i) ∨ (A, i) ∈ l) : l.foldl (reducer_argmax_f32_i32 (F := Ideal)) p = (A, i) := by
  induction l generalizing p with
  | nil => exact h.resolve_right (by simp)
  | cons e l ih =>
    have hs := argmax_step A i p e hp (hl e (by simp))
    refine ih (fun e he => hl e (by simp [he])) _ hs.1 ?_
    rcases h with h | h
    · exact Or.inl (hs.2 (Or.inl h))
    · rcases List.mem_cons.1 h with h | h
      · exact Or.inl (hs.2 (Or.inr h.symm))
      · exact Or.inr h

theorem drop_iff (i : S8x32004.Idx) (r : Fin 8) (h : reducesTo_S8x32004_S8_d1.drop i = ix1 r) : i = ix2 r (i 1) := by
  funext a
  fin_cases a
  · exact congrFun h 0
  · rfl

/-- The index of a row's only maximum. -/
theorem argmax_at (x : FVec Ideal S8x32004 .f32) (r : Fin 8) (A : EReal) (hA : ⊥ < A) (n : Fin 32004) (hn : (x (ix2 r n) : EReal) = A)
    (hlt : ∀ j : Fin 32004, j ≠ n → (x (ix2 r j) : EReal) < A) :
    (Host.argReduce reducer_argmax_f32_i32 x (iotaInDim S8x32004 32 1) (constant S_ .f32 0xFF800000#32) (constantI S_ 32 0#32) reducesTo_S8x32004_S8_d1 h_S_ (ix1 r)).2
      = BitVec.ofNat 32 n.val := by
  rw [Ideal.argReduce_eq_reduce2, Host.reduce2_eq_foldl_fiber]
  refine congrArg Prod.snd (argmax_fold A (BitVec.ofNat 32 n.val) _ ?_ _ ?_ ?_)
  · intro e he
    obtain ⟨k, hk, rfl⟩ := List.mem_map.1 he
    have hd : reducesTo_S8x32004_S8_d1.drop (S8x32004.rowMajor.symm k) = ix1 r := of_decide_eq_true (List.mem_filter.1 hk).2
    obtain ⟨j, hj⟩ : ∃ j : Fin 32004, (S8x32004.rowMajor.symm k : S8x32004.Idx) = ix2 r j := ⟨_, drop_iff _ r hd⟩
    rw [hj]
    clear hj hd hk
    by_cases hj : j = n
    · right; subst hj; exact Prod.ext hn rfl
    · left; exact hlt j hj
  · left
    show Ideal.ofBits .f32 0xFF800000#32 < A
    have e : Ideal.ofBits .f32 0xFF800000#32 = ⊥ := by simp [Ideal.ofBits, Ideal.ieee]
    rw [e]; exact hA
  · right
    refine List.mem_map.2 ⟨S8x32004.rowMajor (ix2 r n), List.mem_filter.2 ⟨List.mem_finRange _, ?_⟩, ?_⟩
    · rw [Equiv.symm_apply_apply, decide_eq_true]
      funext a
      fin_cases a
      rfl
    · rw [Equiv.symm_apply_apply]
      exact Prod.ext hn rfl

end Cert.ReferenceIdeal.Hand
-- ==== Proof.Reference.Track.lean ====
/-
  The reference's results on one row, by the row's sorted order: the sampled token is the largest logit's column, the
  log-probabilities are the masked logits less their log-sum-exp, and the rank value is the last column's logit.
-/
module

public import proofs.«01_k».proof.Proof.Reference.Rows
public import proofs.«01_k».proof.Proof.Reference.Argmax
public import proofs.«01_k».proof.Proof.Math.Row

@[expose] public section
noncomputable section

namespace Cert.ReferenceIdeal.Hand

open Idealize Idealize.ShloMosaic
open Cert.ReferenceIdeal Cert.ReferenceIdeal.Gen Cert.Soft Cert.Row
open scoped BigOperators

/-- The sorted logits, `⊥` where the exclusive running sum of the probabilities exceeds `p` or the place is at least `t`. -/
abbrev drops (w q y : FVec Ideal S8x32004 .f32) (p : FVec Ideal S8 .f32) (t : IVec S_ 32) : FVec Ideal S8x32004 .f32 :=
  select (ori (cmpf .ogt (subf w q) (broadcastInDim S8x32004 ![0, 1] bcast_S8x1_S8x32004_0_1 (broadcastInDim S8x1 ![0] bcast_S8_S8x1_0 p))) (broadcastInDim S8x32004 ![0, 1] bcast_S1x32004_S8x32004_0_1 (cmpi .sge (broadcastInDim S1x32004 ![1] bcast_S32004_S1x32004_1 (iotaInDim S32004 32 0)) (broadcastInDim S1x32004 ![] bcast_S_S1x32004 t)))) (broadcastInDim S8x32004 ![] bcast_S_S8x32004 (id (constant S_ .f32 0xFF800000#32))) y

open Classical in
theorem drops_at (w q y : FVec Ideal S8x32004 .f32) (p : FVec Ideal S8 .f32) (t : IVec S_ 32) (r : Fin 8) (k : Fin 32004) (a : ℝ)
    (ha : (w (ix2 r k) : EReal) - (q (ix2 r k) : EReal) = (a : ℝ)) :
    (drops w q y p t (ix2 r k) : EReal) = if (k.val : ℤ) < (t ix0 : BitVec 32).toInt ∧ (a : EReal) ≤ (p (ix1 r) : EReal) then y (ix2 r k) else ⊥ := by
  unfold drops
  pointwise
  have e0 : (id (constant (F := Ideal) S_ .f32 0xFF800000#32) ix0 : EReal) = ⊥ := bot_word
  rw [ha, e0]
  have hk : IntOp.cmpi .sge (BitVec.ofNat 32 k.val) (t ix0) = BitVec.ofBool (decide ((t ix0 : BitVec 32).toInt ≤ k.val)) := by
    show BitVec.ofBool (BitVec.sle _ _) = _
    rw [BitVec.sle, toInt_small _ (by omega)]
  rw [hk]
  by_cases h1 : (p (ix1 r) : EReal) < a
  · rw [decide_eq_true h1, if_neg (fun h => absurd h.2 (not_le.2 h1))]
    cases decide ((t ix0 : BitVec 32).toInt ≤ k.val) <;> rfl
  · rw [decide_eq_false h1]
    by_cases h2 : (t ix0 : BitVec 32).toInt ≤ k.val
    · rw [decide_eq_true h2, if_neg (fun h => absurd h.1 (not_lt.2 h2))]; rfl
    · rw [decide_eq_false h2, if_pos ⟨not_le.1 h2, not_lt.1 h1⟩]; rfl

/-- The running sum along the rows. -/
def running (q : FVec Ideal S8x32004 .f32) : FVec Ideal S8x32004 .f32 :=
  Host.reduceWindowAdd ![1, 32004] ![1, 1] ![0, 32003] ![0, 0] q (broadcastInDim S_ ![] bcast_S_S_ (constant S_ .f32 0x00000000#32)) reduceWindows_S8x32004_S8x32004_w1s1p0_0_w32004s1p32003_0 h_S_

theorem exp_at (z : FVec Ideal S8x32004 .f32) (i : S8x32004.Idx) : (Host.exp z i : EReal) = Ideal.exp (z i : EReal) := rfl

theorem v20_eq (V : Valuation τ sig (Elt Ideal)) : res_main_v20 V = Host.exp (shift (res_main_v13 V)) := rfl
theorem v24_eq (V : Valuation τ sig (Elt Ideal)) : res_main_v24 V = over (res_main_v20 V) (total (res_main_v20 V)) := rfl
theorem v38_eq (V : Valuation τ sig (Elt Ideal)) : res_main_v38 V
    = take (drops (running (res_main_v24 V)) (res_main_v24 V) (res_main_v13 V) (V (Proc.devRef .tc main_arg4)) (V (Proc.devRef .tc main_arg5))) (wrap (res_main_v37 V)) := rfl
theorem v5_eq (V : Valuation τ sig (Elt Ideal)) : res_main_call6_v5 V = shift (res_main_v38 V) := rfl
theorem v45_eq (V : Valuation τ sig (Elt Ideal)) : res_main_v45 V = Host.exp (res_main_call6_v5 V) := rfl
theorem v49_eq (V : Valuation τ sig (Elt Ideal)) : res_main_v49 V = over (res_main_v45 V) (total (res_main_v45 V)) := rfl

/-- Row `r` of the reference, by the row's values `x`, its columns `col` from the largest down and their places `inv`. -/
structure Here (V : Valuation τ sig (Elt Ideal)) (r : Fin 8) (x : ℕ → EReal) (col inv : ℕ → ℕ) (P : EReal) (T : ℤ) : Prop where
  sorted : Sorted x col inv
  logits : ∀ j : Fin 32004, (res_main_v10 V (ix2 r j) : EReal) = x j.val
  cols : ∀ k : Fin 32004, res_main_v12 V (ix2 r k) = BitVec.ofNat 32 (col k.val)
  places : ∀ j : Fin 32004, res_main_v37 V (ix2 r j) = BitVec.ofNat 32 (inv j.val)
  top_p : (V (Proc.devRef .tc main_arg4) (ix1 r) : EReal) = P
  top_k : (V (Proc.devRef .tc main_arg5) ix0 : BitVec 32).toInt = T
  nonneg : 0 ≤ P
  one_le : 1 ≤ T

namespace Here
variable {V : Valuation τ sig (Elt Ideal)} {r : Fin 8} {x : ℕ → EReal} {col inv : ℕ → ℕ} {P : EReal} {T : ℤ} (h : Here V r x col inv P T)
include h

theorem v13 (k : Fin 32004) : (res_main_v13 V (ix2 r k) : EReal) = x (col k.val) :=
  (take_at (res_main_v10 V) (res_main_call1_v5 V) r k ⟨col k.val, h.sorted.col_lt _ k.isLt⟩
    (wrap_at (res_main_v12 V) r k _ (h.sorted.col_lt _ k.isLt) (h.cols k))).trans (h.logits _)

theorem v20 (k : Fin 32004) : (res_main_v20 V (ix2 r k) : EReal) = ((rexp (x (col k.val)) (M x col) : ℝ) : EReal) := by
  have e0 : (res_main_v13 V (ix2 r (0 : Fin 32004)) : EReal) = ((M x col : ℝ) : EReal) := by
    rw [h.v13, h.sorted.M_eq]; rfl
  have e : (shift (res_main_v13 V) (ix2 r k) : EReal) = x (col k.val) - ((M x col : ℝ) : EReal) := by
    rw [shift_at (res_main_v13 V) r _ 0 e0 (fun j => by
      rw [h.v13, h.sorted.M_eq]; exact h.sorted.anti 0 j.val (Nat.zero_le _) j.isLt) k, h.v13]
  rw [v20_eq, exp_at, e, exp_sub (h.sorted.ne_top (col k.val))]

theorem v24 (k : Fin 32004) : (res_main_v24 V (ix2 r k) : EReal) = ((prob x col k.val : ℝ) : EReal) := by
  have e := total_at (res_main_v20 V) r (fun k => rexp (x (col k)) (M x col)) h.v20
  rw [h.sorted.Z_sorted] at e
  rw [v24_eq]
  exact over_at (res_main_v20 V) (total (res_main_v20 V)) r k _ _ h.sorted.Z_pos (h.v20 k) e

theorem running_at (k : Fin 32004) : (running (res_main_v24 V) (ix2 r k) : EReal) - (res_main_v24 V (ix2 r k) : EReal) = ((cum x col k.val : ℝ) : EReal) := by
  unfold running
  rw [window_at (res_main_v24 V) (prob x col) r k h.v24, h.v24, ← EReal.coe_sub, Finset.sum_range_succ, add_sub_cancel_right]
  rfl

open Classical in
theorem kept (k : Fin 32004) : (drops (running (res_main_v24 V)) (res_main_v24 V) (res_main_v13 V) (V (Proc.devRef .tc main_arg4)) (V (Proc.devRef .tc main_arg5)) (ix2 r k) : EReal)
    = if Keep x col P T k.val then x (col k.val) else ⊥ := by
  refine (drops_at (running (res_main_v24 V)) (res_main_v24 V) (res_main_v13 V) (V (Proc.devRef .tc main_arg4)) (V (Proc.devRef .tc main_arg5)) r k _ (h.running_at k)).trans ?_
  rw [h.v13, h.top_p, h.top_k]
  by_cases hk : Keep x col P T k.val
  · exact (if_pos hk).trans (if_pos hk).symm
  · exact (if_neg hk).trans (if_neg hk).symm

theorem v38 (j : Fin 32004) : (res_main_v38 V (ix2 r j) : EReal) = masked x col inv P T j.val := by
  have hj := h.sorted.inv_lt _ j.isLt
  have e := h.sorted.col_inv _ j.isLt
  have hw := wrap_at (res_main_v37 V) r j _ hj (h.places j)
  unfold masked
  rw [v38_eq]
  generalize hn : inv j.val = n at hj e hw ⊢
  rw [take_at _ _ r j ⟨n, hj⟩ hw, h.kept ⟨n, hj⟩, e]

theorem v5 (j : Fin 32004) : (res_main_call6_v5 V (ix2 r j) : EReal) = masked x col inv P T j.val - ((M x col : ℝ) : EReal) := by
  have hc := h.sorted.col_lt 0 (by omega)
  have e := h.sorted.masked_first (P := P) (T := T) h.nonneg h.one_le
  generalize col 0 = n at hc e
  rw [v5_eq, shift_at (res_main_v38 V) r ((M x col : ℝ) : EReal) ⟨n, hc⟩ ((h.v38 _).trans e) (fun j => by rw [h.v38]; exact h.sorted.masked_le _) j, h.v38]

theorem v45 (j : Fin 32004) : (res_main_v45 V (ix2 r j) : EReal) = ((rexp (masked x col inv P T j.val) (M x col) : ℝ) : EReal) := by
  have e := h.v5 j
  rw [v45_eq, exp_at, e, exp_sub (h.sorted.masked_ne_top (P := P) (T := T) j.val)]

theorem sum45 : (total (res_main_v45 V) (ix1 r) : EReal) = ((S x col P T : ℝ) : EReal) := by
  rw [total_at (res_main_v45 V) r (fun j => rexp (masked x col inv P T j) (M x col)) h.v45, h.sorted.masked_sum]

theorem v49 (j : Fin 32004) : (res_main_v49 V (ix2 r j) : EReal) = ((rexp (masked x col inv P T j.val) (M x col) / S x col P T : ℝ) : EReal) := by
  rw [v49_eq]
  exact over_at (res_main_v45 V) (total (res_main_v45 V)) r j _ _ (h.sorted.S_pos h.nonneg h.one_le) (h.v45 j) h.sum45

/-- The sampled token. -/
theorem tok : (Host.argReduce reducer_argmax_f32_i32 (res_main_v49 V) (iotaInDim S8x32004 32 1) (constant S_ .f32 0xFF800000#32) (constantI S_ 32 0#32) reducesTo_S8x32004_S8_d1 h_S_ (ix1 r)).2
    = BitVec.ofNat 32 (col 0) := by
  have hS := h.sorted.S_pos h.nonneg h.one_le
  have hc := h.sorted.col_lt 0 (by omega)
  have e1 : rexp ((M x col : ℝ) : EReal) (M x col) = 1 := by
    unfold rexp
    rw [if_neg (EReal.coe_ne_bot _), EReal.toReal_coe, sub_self, Real.exp_zero]
  have e0 := h.sorted.masked_first (P := P) (T := T) h.nonneg h.one_le
  have el := fun j hj hne => h.sorted.rexp_masked_lt (P := P) (T := T) j hj hne
  generalize col 0 = n at hc e0 el ⊢
  refine argmax_at (res_main_v49 V) r ((1 / S x col P T : ℝ) : EReal) (EReal.bot_lt_coe _) ⟨n, hc⟩ ?_ ?_
  · rw [h.v49, e0, e1]
  · intro j hj
    rw [h.v49, EReal.coe_lt_coe_iff]
    exact div_lt_div_of_pos_right (el j.val j.isLt fun e => hj (Fin.ext e)) hS

set_option maxRecDepth 100000 in
/-- The log-probabilities. -/
theorem lp (j : Fin 32004) : ((subf (res_main_call6_v5 V) (broadcastInDim S8x32004 ![0, 1] bcast_S8x1_S8x32004_0_1 (Host.log (broadcastInDim S8x1 ![0] bcast_S8_S8x1_0 (Host.reduceAdd (Host.exp (res_main_call6_v5 V)) (constant S_ .f32 0x00000000#32) reducesTo_S8x32004_S8_d1 h_S_)))) : FVec Ideal S8x32004 .f32) (ix2 r j) : EReal)
    = out x col inv P T j.val := by
  have e : (total (res_main_v45 V) (ix1 r) : EReal) = ((S x col P T : ℝ) : EReal) := h.sum45
  have e' : ((broadcastInDim S8x32004 ![0, 1] bcast_S8x1_S8x32004_0_1 (Host.log (broadcastInDim S8x1 ![0] bcast_S8_S8x1_0 (total (res_main_v45 V)))) : FVec Ideal S8x32004 .f32) (ix2 r j) : EReal) = ((Real.log (S x col P T) : ℝ) : EReal) := by
    refine Eq.trans ?_ ((congrArg Ideal.log e).trans (if_neg (not_le.2 (h.sorted.S_pos h.nonneg h.one_le))))
    generalize total (res_main_v45 V) = z
    pointwise
    try rfl
  refine (congrArg₂ (fun a b : EReal => a - b) (h.v5 j) e').trans ?_
  unfold out
  have ht := h.sorted.masked_ne_top (P := P) (T := T) j.val
  generalize masked x col inv P T j.val = y at ht ⊢
  induction y with
  | bot => rfl
  | top => exact absurd rfl ht
  | coe y => rw [← EReal.coe_sub, ← EReal.coe_sub, ← EReal.coe_sub, sub_sub]

end Here
end Cert.ReferenceIdeal.Hand
-- ==== Proof.Math.Order.lean ====
/-
  A two-operand sort along the rows of an `8 × 32004` array carrying the column numbers: the sorting permutation of a row, and
  the permutation that sorts it back.
-/
module

public import Idealize.ShloMosaic.Lib.SortFacts
public import Idealize.ShloMosaic.Lib.Pointwise

@[expose] public section

noncomputable section

namespace Cert.Order

open Idealize Idealize.ShloMosaic

/-- The shape of the rows. -/
abbrev Rows : Shape := ⟨2, ![8, 32004]⟩

/-- The column whose key stands at place `k`. -/
def ord {α : Type} {n : ℕ} (B : α → α → Bool) (y : Fin n → α) : Fin n → Fin n := sortedFrom fun a b => B (y a) (y b)

section read
variable {α : Type} (cmp : α × BitVec 32 → α × BitVec 32 → BitVec 1) (B : α → α → Bool) (h : ∀ p q, cmp p q = BitVec.ofBool (B p.1 q.1))
  (x : Rows.Idx → α) (i : IVec Rows 32) (r : Fin 8) (k : Fin 32004)
include h

theorem src : sortedFrom (fun a b : Fin 32004 => cmp (x (ix2 r a), i (ix2 r a)) (x (ix2 r b), i (ix2 r b)) == 1#1) = ord B fun a => x (ix2 r a) := by
  unfold ord
  congr 1
  funext a b
  rw [h]
  cases B (x (ix2 r a)) (x (ix2 r b)) <;> rfl

omit h in
theorem along (a : Fin 32004) : (ix2 r k : Rows.Idx).along 1 a = ix2 r a := by
  funext b
  fin_cases b <;> rfl

theorem key : (Host.sort2 Rows 1 cmp x i).1 (ix2 r k) = x (ix2 r (ord B (fun a => x (ix2 r a)) k)) := by
  rw [← src cmp B h x i r]
  unfold Host.sort2
  rw [dif_pos (show (1 : ℕ) < Rows.rank by decide)]
  show x ((ix2 r k : Rows.Idx).along 1 (sortedFrom (fun a b : Fin 32004 => cmp (x ((ix2 r k : Rows.Idx).along 1 a), i ((ix2 r k : Rows.Idx).along 1 a))
    (x ((ix2 r k : Rows.Idx).along 1 b), i ((ix2 r k : Rows.Idx).along 1 b)) == 1#1) k)) = _
  simp only [along]
  exact congrArg _ (along r k _)

theorem val : (Host.sort2 Rows 1 cmp x i).2 (ix2 r k) = i (ix2 r (ord B (fun a => x (ix2 r a)) k)) := by
  rw [← src cmp B h x i r]
  unfold Host.sort2
  rw [dif_pos (show (1 : ℕ) < Rows.rank by decide)]
  show i ((ix2 r k : Rows.Idx).along 1 (sortedFrom (fun a b : Fin 32004 => cmp (x ((ix2 r k : Rows.Idx).along 1 a), i ((ix2 r k : Rows.Idx).along 1 a))
    (x ((ix2 r k : Rows.Idx).along 1 b), i ((ix2 r k : Rows.Idx).along 1 b)) == 1#1) k)) = _
  simp only [along]
  exact congrArg _ (along r k _)
end read

section perm
variable {α : Type} {n : ℕ} (B : α → α → Bool) (y : Fin n → α)

theorem ord_inj : Function.Injective (ord B y) := sortedFrom_injective _

theorem ord_sorted (hasym : ∀ a b, B (y a) (y b) = true → B (y b) (y a) = false)
    (htr : ∀ a b c, B (y a) (y b) = false → B (y b) (y c) = false → B (y a) (y c) = false)
    {i j : Fin n} (hij : i < j) : B (y (ord B y j)) (y (ord B y i)) = false :=
  sortedFrom_noInversion (fun a b => B (y a) (y b)) (fun a b => B (y a) (y b)) (fun _ _ => hasym _ _) (fun _ _ h => h) (fun _ _ _ => htr _ _ _) i j hij

/-- Sorting the places of a permutation gives its inverse. -/
theorem ord_inverse (σ : Fin n → Fin n) (hσ : Function.Injective σ) (v : Fin n → α) (hv : ∀ a b, B (v a) (v b) = decide (σ a < σ b)) (j : Fin n) :
    σ (ord B v j) = j := by
  have hm : StrictMono fun k => σ (ord B v k) := fun i k hik => by
    have h : B (v (ord B v k)) (v (ord B v i)) = false := ord_sorted B v (fun a b h => by
      rw [hv] at h ⊢; rw [decide_eq_true_eq] at h; rw [decide_eq_false_iff_not]; omega) (fun a b c h h' => by
      rw [hv] at h h' ⊢; rw [decide_eq_false_iff_not] at h h' ⊢; omega) hik
    rw [hv, decide_eq_false_iff_not] at h
    exact lt_of_le_of_ne (not_lt.1 h) fun e => hik.ne (ord_inj B v (hσ e))
  have hs : Function.Surjective fun k => σ (ord B v k) := Finite.surjective_of_injective hm.injective
  have e : (fun k => σ (ord B v k)) = id := by
    have hid : StrictMono (id : Fin n → Fin n) := strictMono_id
    exact hm.range_inj hid |>.1 (by rw [hs.range_eq, Set.range_id])
  exact congrFun e j
end perm

end Cert.Order
-- ==== Proof.Reference.Sorted.lean ====
/-
  The reference's two sorts of a row's places: the first lists the columns from the largest logit down, the second is its
  inverse.
-/
module

public import proofs.«01_k».proof.Proof.Reference.Track
public import proofs.«01_k».proof.Proof.Math.Order

@[expose] public section
noncomputable section

namespace Cert.ReferenceIdeal.Hand

open Idealize Idealize.ShloMosaic
open Cert.ReferenceIdeal Cert.ReferenceIdeal.Gen Cert.Row Cert.Order

variable (V : Valuation τ sig (Elt Ideal)) (r : Fin 8)

/-- A row's negated logits. -/
def negs (a : Fin 32004) : EReal := res_main_v11 V (ix2 r a)
/-- A row's columns from the largest logit down. -/
def perm : Fin 32004 → Fin 32004 := ord (fun a b : EReal => decide (a < b)) (negs V r)
/-- The places of a row's columns. -/
def place : Fin 32004 → Fin 32004 := ord BitVec.slt (fun a => res_main_v12 V (ix2 r a))

/-- A row's scaled logits, the row's threshold and the count. -/
def vals (a : Fin 32004) : EReal := res_main_v10 V (ix2 r a)
def refP : EReal := V (Proc.devRef .tc main_arg4) (ix1 r)
def refK : ℤ := (V (Proc.devRef .tc main_arg5) ix0 : BitVec 32).toInt

theorem negs_at (a : Fin 32004) : negs V r a = - vals V r a := rfl

theorem iota0_at (a : Fin 32004) : res_main_call0_v0 V (ix2 r a) = BitVec.ofNat 32 a.val := rfl
theorem iota4_at (a : Fin 32004) : res_main_call4_v0 V (ix2 r a) = BitVec.ofNat 32 a.val := rfl

theorem cmp_slt (p q : BitVec 32 × BitVec 32) : comparator_i32_i32_d1 p q = BitVec.ofBool (BitVec.slt p.1 q.1) := rfl

set_option maxRecDepth 100000 in
theorem sort_vals (x : FVec Ideal S8x32004 .f32) (i : IVec S8x32004 32) (k : Fin 32004) :
    (Host.sort2 S8x32004 1 comparator_f32_i32_d1 x i).2 (ix2 r k) = i (ix2 r (ord (fun a b : EReal => decide (a < b)) (fun a => (x (ix2 r a) : EReal)) k)) :=
  val (α := EReal) (comparator_f32_i32_d1 (F := Ideal)) (fun a b : EReal => decide (a < b)) cmp_key x i r k

set_option maxRecDepth 100000 in
theorem sort_keys (x : FVec Ideal S8x32004 .f32) (i : IVec S8x32004 32) (k : Fin 32004) :
    (Host.sort2 S8x32004 1 comparator_f32_i32_d1 x i).1 (ix2 r k) = x (ix2 r (ord (fun a b : EReal => decide (a < b)) (fun a => (x (ix2 r a) : EReal)) k)) :=
  key (α := EReal) (comparator_f32_i32_d1 (F := Ideal)) (fun a b : EReal => decide (a < b)) cmp_key x i r k

theorem v12_at (k : Fin 32004) : res_main_v12 V (ix2 r k) = BitVec.ofNat 32 (perm V r k).val := by
  unfold res_main_v12 perm
  rw [sort_vals, iota0_at]
  rfl

theorem v37_at (k : Fin 32004) : res_main_v37 V (ix2 r k) = BitVec.ofNat 32 (place V r k).val := by
  unfold res_main_v37
  rw [← iota4_at V r]
  exact (val (α := BitVec 32) comparator_i32_i32_d1 _ cmp_slt (res_main_v12 V) (res_main_call4_v0 V) r k)

theorem perm_inj : Function.Injective (perm V r) := ord_inj _ _

theorem slt_small (a b : Fin 32004) : BitVec.slt (BitVec.ofNat 32 a.val) (BitVec.ofNat 32 b.val) = decide (a < b) := by
  rw [BitVec.slt, toInt_small _ (by omega), toInt_small _ (by omega)]
  exact decide_eq_decide.2 (by rw [Fin.lt_def]; omega)

theorem perm_place (j : Fin 32004) : perm V r (place V r j) = j :=
  ord_inverse BitVec.slt (perm V r) (perm_inj V r) (fun a => res_main_v12 V (ix2 r a)) (fun a b => by
    rw [v12_at, v12_at, slt_small]) j

theorem place_perm (k : Fin 32004) : place V r (perm V r k) = k := perm_inj V r (perm_place V r _)

/-- The row's order as numbers. -/
def col (k : ℕ) : ℕ := if h : k < 32004 then (perm V r ⟨k, h⟩).val else 0
def inv (j : ℕ) : ℕ := if h : j < 32004 then (place V r ⟨j, h⟩).val else 0

theorem col_at (k : Fin 32004) : col V r k.val = (perm V r k).val := dif_pos k.isLt
theorem inv_at (j : Fin 32004) : inv V r j.val = (place V r j).val := dif_pos j.isLt

theorem negs_anti {a b : Fin 32004} (hab : a ≤ b) : negs V r (perm V r a) ≤ negs V r (perm V r b) := by
  rcases hab.eq_or_lt with rfl | h
  · exact le_rfl
  · have := ord_sorted (fun a b : EReal => decide (a < b)) (negs V r) (fun a b h => by
      rw [decide_eq_true_eq] at h; rw [decide_eq_false_iff_not]; exact h.not_gt) (fun a b c h h' => by
      rw [decide_eq_false_iff_not, not_lt] at h h' ⊢; exact h'.trans h) h
    rw [decide_eq_false_iff_not, not_lt] at this
    exact this

variable {V r}

/-- The sorted row, from the row's values and the distinctness of the largest ones. -/
theorem sorted {x : ℕ → EReal} (hx : ∀ j : Fin 32004, vals V r j = x j.val)
    (hreal : ∀ j : Fin 32004, (((x j.val).toReal : ℝ) : EReal) = x j.val) (hpad : ∀ j, 32004 ≤ j → x j = ⊥)
    (hs : ∀ k : ℕ, (hk : k < 50) → negs V r (perm V r ⟨k, by omega⟩) < negs V r (perm V r ⟨k + 1, by omega⟩)) :
    Sorted x (col V r) (inv V r) := by
  have hn : ∀ j : Fin 32004, negs V r j = - x j.val := fun j => by rw [negs_at, hx]
  exact {
    real := fun j hj => hreal ⟨j, hj⟩
    pad := hpad
    col_lt := fun k hk => by rw [col_at V r ⟨k, hk⟩]; exact Fin.isLt _
    inv_lt := fun j hj => by rw [inv_at V r ⟨j, hj⟩]; exact Fin.isLt _
    col_inv := fun j hj => by rw [inv_at V r ⟨j, hj⟩, col_at, perm_place]
    inv_col := fun k hk => by rw [col_at V r ⟨k, hk⟩, inv_at, place_perm]
    anti := fun a b hab hb => by
      have h := negs_anti V r (a := ⟨a, by omega⟩) (b := ⟨b, hb⟩) hab
      rw [hn, hn, EReal.neg_le_neg_iff] at h
      rw [col_at V r ⟨a, by omega⟩, col_at V r ⟨b, hb⟩]
      exact h
    strict := fun k hk => by
      have h := hs k hk
      rw [hn, hn, EReal.neg_lt_neg_iff] at h
      rw [col_at V r ⟨k, by omega⟩, col_at V r ⟨k + 1, by omega⟩]
      exact h }

theorem here {x : ℕ → EReal} (h : Sorted x (col V r) (inv V r)) (hx : ∀ j : Fin 32004, vals V r j = x j.val)
    (hP : 0 ≤ refP V r) (hT : 1 ≤ refK V) :
    Here V r x (col V r) (inv V r) (refP V r) (refK V) where
  sorted := h
  logits := hx
  cols k := by rw [v12_at, col_at]
  places j := by rw [v37_at, inv_at]
  top_p := rfl
  top_k := rfl
  nonneg := hP
  one_le := hT

end Cert.ReferenceIdeal.Hand
-- ==== Proof.Reference.Pre.lean ====
/-
  The precondition read: the scaled logits are real, the fifty-one largest of a row are distinct, the threshold is not
  negative and the count is from 1 to 50.
-/
module

public import proofs.«01_k».proof.Proof.Reference.Sorted
public import proofs.«01_k».proof.Proof.Gen.Pre_separated_top
public import proofs.«01_k».proof.Pre_separated_top

@[expose] public section
noncomputable section

namespace Cert.ReferenceIdeal.Hand

open Idealize Idealize.ShloMosaic
open Cert.ReferenceIdeal Cert.ReferenceIdeal.Gen Cert.Row Cert.Order

variable (V : Valuation τ sig (Elt Ideal))

/-- The precondition's five tests of the reference's arguments. -/
abbrev tests := Cert.Pre_separated_top.fn (F := Ideal) (V (Proc.devRef .tc main_arg0)) (V (Proc.devRef .tc main_arg1)) (V (Proc.devRef .tc main_arg2))
  (V (Proc.devRef .tc main_arg3)) (V (Proc.devRef .tc main_arg4)) (V (Proc.devRef .tc main_arg5))

/-- Every entry of an array is of finite size. -/
def finiteTest (x : FVec Ideal S8x32004 .f32) : IVec S_ 1 := Host.reduce IntOp.andi (cmpf .olt (Host.absf x)
    (broadcastInDim S8x32004 ![] Cert.Pre_separated_top.Facts.bcast_S_S8x32004 (constant S_ .f32 0x7F800000#32))) (constantI S_ 1 1#1) Cert.Pre_separated_top.Facts.reducesTo_S8x32004_S_d0_1 Cert.Pre_separated_top.Facts.h_S_

/-- The scaled logits the precondition forms. -/
def preLogits (a0 : FVec Ideal S32256x4096 .f32) (a1 : FVec Ideal S8x4096 .f32) (a2 : FVec Ideal S32256 .f32) (a3 : FVec Ideal S8 .f32) : FVec Ideal S8x32004 .f32 :=
  Host.divf (extractStridedSlice S8x32004 ![0, 0] (addf (Host.dotGeneral Cert.Pre_separated_top.dot_S8x4096_S4096x32256_S8x32256_1_0_0_1_n_n none a1 (transpose S4096x32256 [1, 0] a0 Cert.Pre_separated_top.Facts.transposes_S32256x4096_S4096x32256_1_0))
    (broadcastInDim S8x32256 ![0, 1] Cert.Pre_separated_top.Facts.bcast_S1x32256_S8x32256_0_1 (broadcastInDim S1x32256 ![1] Cert.Pre_separated_top.Facts.bcast_S32256_S1x32256_1 a2))) Cert.Pre_separated_top.Facts.slices_S8x32256_S8x32004_0_0)
    (broadcastInDim S8x32004 ![0, 1] Cert.Pre_separated_top.Facts.bcast_S8x1_S8x32004_0_1 (broadcastInDim S8x1 ![0] Cert.Pre_separated_top.Facts.bcast_S8_S8x1_0 a3))

/-- They are the reference's. -/
theorem preLogits_eq : preLogits (V (Proc.devRef .tc main_arg0)) (V (Proc.devRef .tc main_arg1)) (V (Proc.devRef .tc main_arg2)) (V (Proc.devRef .tc main_arg3)) = res_main_v10 V := by
  unfold preLogits res_main_v10 res_main_v4
  rfl

theorem fn_1 (a0 : FVec Ideal S32256x4096 .f32) (a1 : FVec Ideal S8x4096 .f32) (a2 : FVec Ideal S32256 .f32) (a3 a4 : FVec Ideal S8 .f32) (a5 : IVec S_ 32) :
    (Cert.Pre_separated_top.fn a0 a1 a2 a3 a4 a5).1 = finiteTest (preLogits a0 a1 a2 a3) := by
  unfold Cert.Pre_separated_top.fn Cert.Pre_separated_top.fn_part1 finiteTest preLogits
  dsimp only

theorem tests_1 : (tests V).1 = finiteTest (res_main_v10 V) := (fn_1 _ _ _ _ _ _).trans (congrArg finiteTest (preLogits_eq V))

theorem tests_2 : (tests V).2.1 = Host.reduce IntOp.andi (cmpf .olt
    (extractStridedSlice Cert.Pre_separated_top.S8x50 ![0, 0] (Host.sort2 S8x32004 1 comparator_f32_i32_d1 (res_main_v11 V) (res_main_call0_v0 V)).1 Cert.Pre_separated_top.Facts.slices_S8x32004_S8x50_0_0)
    (extractStridedSlice Cert.Pre_separated_top.S8x50 ![0, 1] (Host.sort2 S8x32004 1 comparator_f32_i32_d1 (res_main_v11 V) (res_main_call0_v0 V)).1 Cert.Pre_separated_top.Facts.slices_S8x32004_S8x50_0_1))
    (constantI S_ 1 1#1) Cert.Pre_separated_top.Facts.reducesTo_S8x50_S_d0_1 Cert.Pre_separated_top.Facts.h_S_ := rfl

theorem tests_3 : (tests V).2.2.1 = Host.reduce IntOp.andi (cmpf (F := Ideal) (φ := .f32) .oge (V (Proc.devRef .tc main_arg4))
    (broadcastInDim S8 ![] Cert.Pre_separated_top.Facts.bcast_S_S8 (constant S_ .f32 0x00000000#32))) (constantI S_ 1 1#1) Cert.Pre_separated_top.Facts.reducesTo_S8_S_d0 Cert.Pre_separated_top.Facts.h_S_ := rfl

instance : Subsingleton S_.Idx := ⟨fun a b => funext fun i => i.elim0⟩

theorem real_of_abs (a : EReal) (h : BitVec.ofBool (decide (max a (-a) < Ideal.ofBits .f32 0x7F800000#32)) = 1#1) : ((a.toReal : ℝ) : EReal) = a := by
  have e : Ideal.ofBits .f32 0x7F800000#32 = ⊤ := by simp [Ideal.ofBits, Ideal.ieee]
  rw [e] at h
  have h' : max a (-a) < ⊤ := by
    by_contra hn
    rw [decide_eq_false hn] at h
    exact absurd h (by decide)
  induction a with
  | bot => exact absurd h' (by simp)
  | top => exact absurd h' (by simp)
  | coe a => rfl

theorem real_of_tests (h : (tests V).1 = fun _ => 1#1) (r : Fin 8) (j : Fin 32004) :
    (((vals V r j).toReal : ℝ) : EReal) = vals V r j := by
  have e := (congrFun (tests_1 V) ix0).symm.trans (congrFun h ix0)
  unfold vals
  generalize res_main_v10 V = y at e ⊢
  have e' := Host.reduce_andi_all _ _ _ _ ix0 e (ix2 r j)
  exact real_of_abs _ e'

theorem lt_of_bit (a b : EReal) (h : BitVec.ofBool (decide (a < b)) = 1#1) : a < b := by
  by_contra hn
  rw [decide_eq_false hn] at h
  exact absurd h (by decide)

theorem strict_of_tests (h : (tests V).2.1 = fun _ => 1#1) (r : Fin 8) (k : ℕ) (hk : k < 50) :
    negs V r (perm V r ⟨k, by omega⟩) < negs V r (perm V r ⟨k + 1, by omega⟩) := by
  have e := Host.reduce_andi_all _ _ _ _ ix0 ((congrFun (tests_2 V) ix0).symm.trans (congrFun h ix0)) (ix2 r ⟨k, hk⟩)
  have k1 := sort_keys r (res_main_v11 V) (res_main_call0_v0 V)
  generalize (Host.sort2 S8x32004 1 comparator_f32_i32_d1 (res_main_v11 V) (res_main_call0_v0 V)).1 = y at e k1
  have e0 : (extractStridedSlice Cert.Pre_separated_top.S8x50 ![0, 0] y Cert.Pre_separated_top.Facts.slices_S8x32004_S8x50_0_0) (ix2 r ⟨k, hk⟩) = y (ix2 r ⟨k, by omega⟩) := by
    pointwise
    try rfl
  have e1 : (extractStridedSlice Cert.Pre_separated_top.S8x50 ![0, 1] y Cert.Pre_separated_top.Facts.slices_S8x32004_S8x50_0_1) (ix2 r ⟨k, hk⟩) = y (ix2 r ⟨k + 1, by omega⟩) := by
    pointwise
    exact congrArg (fun a : Fin 32004 => y (ix2 r a)) (Fin.ext (Nat.add_comm 1 k))
  have e2 : (y (ix2 r ⟨k, by omega⟩) : EReal) < y (ix2 r ⟨k + 1, by omega⟩) := lt_of_bit _ _ (by rw [← e0, ← e1]; exact e)
  rw [k1, k1] at e2
  exact e2

theorem nonneg_of_tests (h : (tests V).2.2.1 = fun _ => 1#1) (r : Fin 8) : 0 ≤ refP V r := by
  have e := Host.reduce_andi_all _ _ _ _ ix0 ((congrFun (tests_3 V) ix0).symm.trans (congrFun h ix0)) (ix1 r)
  have z : Ideal.ofBits .f32 0x00000000#32 = 0 := by simp [Ideal.ofBits, Ideal.ieee]
  have e' : BitVec.ofBool (decide (Ideal.ofBits .f32 0x00000000#32 ≤ refP V r)) = 1#1 := e
  rw [z] at e'
  by_contra hn
  rw [decide_eq_false hn] at e'
  exact absurd e' (by decide)

theorem one_le_of_tests (h : (tests V).2.2.2.1 = fun _ => 1#1) : 1 ≤ refK V := by
  have e : BitVec.ofBool (BitVec.sle 1#32 (V (Proc.devRef .tc main_arg5) ix0 : BitVec 32)) = 1#1 := congrFun h ix0
  by_contra hn
  unfold refK at hn
  rw [BitVec.sle, decide_eq_false (by simpa using hn)] at e
  exact absurd e (by decide)

theorem le_fifty_of_tests (h : (tests V).2.2.2.2 = fun _ => 1#1) : refK V ≤ 50 := by
  have e : BitVec.ofBool (BitVec.sle (V (Proc.devRef .tc main_arg5) ix0 : BitVec 32) 50#32) = 1#1 := congrFun h ix0
  by_contra hn
  unfold refK at hn
  rw [BitVec.sle, decide_eq_false (by simpa using hn)] at e
  exact absurd e (by decide)

end Cert.ReferenceIdeal.Hand
-- ==== Proof.Agree.lean ====
/-
  The three results of the kernel are the reference's, over the extended reals and where the precondition holds.
-/
module

public import proofs.«01_k».proof.Defs
public import proofs.«01_k».proof.Proof.Ideal.Results
public import proofs.«01_k».proof.Proof.Ideal.Out
public import proofs.«01_k».proof.Proof.Reference.Pre
public import Idealize.ShloMosaic.Lib.IdealHost

@[expose] public section
noncomputable section

namespace Cert.Agree

open Idealize Idealize.ShloMosaic Idealize.SL.Sem
open Cert.KernelIdeal.Hand Cert.KernelIdeal.Hand.Track Cert.ReferenceIdeal.Hand
open scoped BigOperators

/-- The scores before scaling. -/
theorem score_at (V : Valuation Cert.ReferenceIdeal.τ Cert.ReferenceIdeal.sig (Elt Ideal)) (r : Fin 8) (j : Fin 32256)
    (e : FVec Ideal Cert.ReferenceIdeal.S32256x4096 .f32) (h : FVec Ideal Cert.ReferenceIdeal.S8x4096 .f32) (b : FVec Ideal Cert.ReferenceIdeal.S32256 .f32)
    (h0 : V (Proc.devRef .tc Cert.ReferenceIdeal.main_arg0) = e) (h1 : V (Proc.devRef .tc Cert.ReferenceIdeal.main_arg1) = h) (h2 : V (Proc.devRef .tc Cert.ReferenceIdeal.main_arg2) = b) :
    (res_main_v4 V (ix2 r j) : EReal) = (∑ k : Fin 4096, (h (ix2 r k) : EReal) * e (ix2 j k)) + b (ix1 j) := by
  unfold res_main_v4
  rw [h0, h1, h2]
  pointwise

theorem vals_at (V : Valuation Cert.ReferenceIdeal.τ Cert.ReferenceIdeal.sig (Elt Ideal)) (r : Fin 8) (j : Fin 32004) (t : FVec Ideal Cert.ReferenceIdeal.S8 .f32)
    (h3 : V (Proc.devRef .tc Cert.ReferenceIdeal.main_arg3) = t) :
    Cert.ReferenceIdeal.Hand.vals V r j = Ideal.div (res_main_v4 V (ix2 r ⟨j.val, by omega⟩)) (t (ix1 r)) := by
  unfold Cert.ReferenceIdeal.Hand.vals res_main_v10
  rw [h3]
  generalize res_main_v4 V = y
  pointwise

/-- The reference's last score of a row. -/
theorem last_at (V : Valuation Cert.ReferenceIdeal.τ Cert.ReferenceIdeal.sig (Elt Ideal)) (r : Fin 8) :
    (shapeCast _ (extractStridedSlice Cert.ReferenceIdeal.S8x1 ![0, 32255] (res_main_v4 V) Cert.ReferenceIdeal.Gen.slices_S8x32256_S8x1_0_32255) Cert.ReferenceIdeal.Gen.shapeCasts_S8x1_S8 : FVec Ideal Cert.ReferenceIdeal.S8 .f32) (ix1 r)
      = res_main_v4 V (ix2 r ⟨32255, by omega⟩) := by
  generalize res_main_v4 V = y
  pointwise

/-- A quotient that is real has a divisor other than zero. -/
theorem ne_zero_of_real (x y : EReal) (h : (((Ideal.div x y).toReal : ℝ) : EReal) = Ideal.div x y) : y ≠ 0 := by
  rintro rfl
  have e : Ideal.div x 0 = if 0 < x then ⊤ else ⊥ := if_pos rfl
  rw [e] at h
  split_ifs at h
  · exact EReal.coe_ne_top _ h
  · exact EReal.coe_ne_bot _ h

/-- The reference's arguments on a device are the kernel's. -/
structure Args (m : (ℓ : Loc Cert.KernelIdeal.nD Cert.KernelIdeal.τ Cert.KernelIdeal.sig) → Buf (Elt Ideal) ℓ) (c : Dev Cert.KernelIdeal.nD)
    (V : Valuation Cert.ReferenceIdeal.τ Cert.ReferenceIdeal.sig (Elt Ideal)) : Prop where
  e : V (Proc.devRef .tc Cert.ReferenceIdeal.main_arg0) = aE m c
  h : V (Proc.devRef .tc Cert.ReferenceIdeal.main_arg1) = aH m c
  b : V (Proc.devRef .tc Cert.ReferenceIdeal.main_arg2) = aB m c
  t : V (Proc.devRef .tc Cert.ReferenceIdeal.main_arg3) = aT m c
  p : V (Proc.devRef .tc Cert.ReferenceIdeal.main_arg4) = aP m c
  k : V (Proc.devRef .tc Cert.ReferenceIdeal.main_arg5) = aK m c

namespace Args
variable {m : (ℓ : Loc Cert.KernelIdeal.nD Cert.KernelIdeal.τ Cert.KernelIdeal.sig) → Buf (Elt Ideal) ℓ} {c : Dev Cert.KernelIdeal.nD}
  {V : Valuation Cert.ReferenceIdeal.τ Cert.ReferenceIdeal.sig (Elt Ideal)} (a : Args m c V) (r : Fin 8)
include a

theorem score (j : Fin 32256) : (res_main_v4 V (ix2 r j) : EReal) = logit m c r j := score_at V r j _ _ _ a.e a.h a.b

theorem refP_eq : refP V r = aP m c (ix1 r) := congrFun a.p (ix1 r)
theorem refK_eq : refK V = (aK m c ix0 : BitVec 32).toInt := congrArg BitVec.toInt (congrFun a.k ix0)

variable (h1 : (tests V).1 = fun _ => 1#1)
include h1

/-- The scaled logits of the two programs: a product with the reciprocal is the quotient, the divisor not being zero. -/
theorem vals_eq (j : Fin 32004) : Cert.ReferenceIdeal.Hand.vals V r j = X m c r j.val := by
  have hr := real_of_tests V h1 r j
  rw [vals_at V r j _ a.t] at hr ⊢
  have hT := ne_zero_of_real _ _ hr
  rw [a.score]
  unfold X
  rw [dif_pos j.isLt, Ideal.mul_one_div hT]

variable (h2 : (tests V).2.1 = fun _ => 1#1)
include h2

theorem sorted : Cert.Row.Sorted (X m c r) (col V r) (inv V r) :=
  Cert.ReferenceIdeal.Hand.sorted (a.vals_eq r h1) (fun j => by rw [← a.vals_eq r h1]; exact real_of_tests V h1 r j)
    (fun j hj => by unfold X; exact dif_neg (by omega)) (fun k hk => strict_of_tests V h2 r k hk)

variable (h3 : (tests V).2.2.1 = fun _ => 1#1) (h4 : (tests V).2.2.2.1 = fun _ => 1#1)
include h3 h4

theorem here : Here V r (X m c r) (col V r) (inv V r) (aP m c (ix1 r)) (aK m c ix0 : BitVec 32).toInt := by
  rw [← a.refP_eq r, ← a.refK_eq]
  exact Cert.ReferenceIdeal.Hand.here (a.sorted r h1 h2) (a.vals_eq r h1) (nonneg_of_tests V h3 r) (one_le_of_tests V h4)

variable (h5 : (tests V).2.2.2.2 = fun _ => 1#1)
include h5

theorem rowOk : Track.RowOk m c r (col V r) (inv V r) where
  sorted := a.sorted r h1 h2
  top_p := by rw [← a.refP_eq r]; exact nonneg_of_tests V h3 r
  one_le := by rw [← a.refK_eq]; exact one_le_of_tests V h4
  le_fifty := by rw [← a.refK_eq]; exact le_fifty_of_tests V h5

end Args

theorem eta1 (j : Cert.KernelIdeal.S8.Idx) : ∃ r : Fin 8, j = ix1 r := ⟨j 0, by
  funext i
  fin_cases i
  rfl⟩

theorem eta2 (j : Cert.KernelIdeal.S8x32004.Idx) : ∃ (r : Fin 8) (k : Fin 32004), j = ix2 r k := ⟨j 0, j 1, by
  funext i
  fin_cases i <;> rfl⟩

theorem column_at {α : Type} (x : Cert.KernelIdeal.S8x1.Idx → α) (r : Fin 8) :
    shapeCast Cert.KernelIdeal.S8 x Cert.KernelIdeal.Gen.shapeCasts_S8x1_S8 (ix1 r) = x (ix2 r 0) := by
  pointwise

theorem algebraic : Cert.algebraic_KernelIdeal_ReferenceIdeal_pre_separated_top (hKernelIdeal := Cert.KernelIdeal.Gen.facts)
    (hReferenceIdeal := Cert.ReferenceIdeal.Gen.facts) (hPre_separated_top := Cert.Pre_separated_top.Gen.facts) := by
  intro m g m' g' hpre hargs
  refine ⟨fun c => (shapeCast Cert.KernelIdeal.S8 (tok m c) Cert.KernelIdeal.Gen.shapeCasts_S8x1_S8 : IVec Cert.KernelIdeal.S8 32), fun c => lp m c,
    fun c => (shapeCast Cert.KernelIdeal.S8 (rank m c) Cert.KernelIdeal.Gen.shapeCasts_S8x1_S8 : FVec Ideal Cert.KernelIdeal.S8 .f32),
    Track.run m g, (θ_run _ _ _).mono ?_ (Cert.ReferenceIdeal.Hand.run m' g')⟩
  intro s h c
  have a : Args m c (StableHlo.launchContents m' c) := ⟨(hargs c).1, (hargs c).2.1, (hargs c).2.2.1, (hargs c).2.2.2.1, (hargs c).2.2.2.2.1, (hargs c).2.2.2.2.2⟩
  have ht : tests (StableHlo.launchContents m' c) = Cert.Pre_separated_top.fn (F := Ideal) (aE m c) (aH m c) (aB m c) (aT m c) (aP m c) (aK m c) := by
    unfold tests
    rw [a.e, a.h, a.b, a.t, a.p, a.k]
  have hp := hpre c
  obtain ⟨h1, h2, h3, h4, h5⟩ : (tests (StableHlo.launchContents m' c)).1 = (fun _ => 1#1) ∧ (tests (StableHlo.launchContents m' c)).2.1 = (fun _ => 1#1)
      ∧ (tests (StableHlo.launchContents m' c)).2.2.1 = (fun _ => 1#1) ∧ (tests (StableHlo.launchContents m' c)).2.2.2.1 = (fun _ => 1#1)
      ∧ (tests (StableHlo.launchContents m' c)).2.2.2.2 = (fun _ => 1#1) := by rw [ht]; exact hp
  obtain ⟨e0, e1, e2, e3⟩ := h c
  refine ⟨e0.trans ?_, e1.trans ?_, e2.trans ?_, e3⟩
  · funext j
    obtain ⟨r, rfl⟩ := eta1 j
    exact (a.here r h1 h2 h3 h4).tok.trans ((column_at _ r).trans (a.rowOk r h1 h2 h3 h4 h5).tok).symm
  · funext j
    obtain ⟨r, k, rfl⟩ := eta2 j
    exact ((a.here r h1 h2 h3 h4).lp k).trans ((a.rowOk r h1 h2 h3 h4 h5).lp k).symm
  · funext j
    obtain ⟨r, rfl⟩ := eta1 j
    exact (last_at _ r).trans ((a.score r _).trans ((column_at _ r).trans (rank_apply m c r)).symm)

end Cert.Agree
-- ==== Proof.lean ====
/-
  The certificate: the three programs' frames, the named constants of the idealization, the kernel's results against the reference's, and the assembly.
-/
module

public import proofs.«01_k».proof.Defs
public import proofs.«01_k».proof.Proof.Kernel.Frame
public import proofs.«01_k».proof.Proof.Ideal.Frame
public import proofs.«01_k».proof.Proof.Reference.Run
public import proofs.«01_k».proof.Proof.Agree
public import proofs.«01_k».proof.Proof.Gen.Kernel
public import proofs.«01_k».proof.Proof.Gen.KernelIdeal
public import proofs.«01_k».proof.Proof.Gen.ReferenceIdeal
public import proofs.«01_k».proof.Proof.Gen.Pre_separated_top
public import Idealize.ShloMosaic.Adequacy
public import Idealize.ShloMosaic.Init

@[expose] public section

noncomputable section

namespace Cert.Proof

open Idealize.ShloMosaic Idealize.SL.Sem Cert.Kernel

/-- The named constants: the two masks stand for minus infinity, the cut-off for plus infinity. -/
theorem preserves : Cert.preserves_Kernel_KernelIdeal :=
  ⟨IdealRules.named_const.statement Cert.KernelIdeal.κ "mask" .f32 0xF149F2CA#32 ⊥ rfl,
    IdealRules.named_const.statement Cert.KernelIdeal.κ "cut" .f32 0x7149F2CA#32 ⊤ rfl,
    IdealRules.named_const.statement Cert.KernelIdeal.κ "dropped" .f32 0xCE6E6B28#32 ⊥ rfl⟩

theorem claim : Cert.Claim := ⟨Cert.Kernel.Gen.facts, Cert.KernelIdeal.Gen.facts, Cert.ReferenceIdeal.Gen.facts, Cert.Pre_separated_top.Gen.facts,
  fun m g _ => Cert.Kernel.Hand.frame m g,
  fun m g _ => Cert.KernelIdeal.Hand.frame m g,
  fun m g _ => Cert.KernelIdeal.Hand.frame m g,
  fun m g _ => (θ_run _ _ _).mono (fun _ h => ⟨fun c => (h c).2.2.2, funext fun s => nomatch s⟩)
    (Cert.ReferenceIdeal.Hand.run m g),
  fun m g _ => (θ_run _ _ _).mono (fun _ h => ⟨fun c => (h c).2.2.2, funext fun s => nomatch s⟩)
    (Cert.ReferenceIdeal.Hand.run m g),
  preserves, Cert.Agree.algebraic⟩

end Cert.Proof

end
